-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bank [hPre_finite_bank : Cert.Pre_finite_bank.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bank [hPre_finite_bank : Cert.Pre_finite_bank.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_bank [hKernelIdeal : Cert.KernelIdeal.Facts] [hPre_finite_bank : Cert.Pre_finite_bank.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bank m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_bank [hReferenceIdeal : Cert.ReferenceIdeal.Facts] [hPre_finite_bank : Cert.Pre_finite_bank.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bank m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_bank [hKernelIdeal : Cert.KernelIdeal.Facts] [hReferenceIdeal : Cert.ReferenceIdeal.Facts] [hPre_finite_bank : Cert.Pre_finite_bank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bank m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_bank : Cert.Pre_finite_bank.Facts),
    quiescent_Kernel (hKernel := hKernel)
    ∧ quiescent_KernelIdeal (hKernelIdeal := hKernelIdeal)
    ∧ quiescent_KernelIdeal_pre_finite_bank (hKernelIdeal := hKernelIdeal) (hPre_finite_bank := hPre_finite_bank)
    ∧ quiescent_ReferenceIdeal (hReferenceIdeal := hReferenceIdeal)
    ∧ quiescent_ReferenceIdeal_pre_finite_bank (hReferenceIdeal := hReferenceIdeal) (hPre_finite_bank := hPre_finite_bank)
    ∧ preserves_Kernel_KernelIdeal
    ∧ algebraic_KernelIdeal_ReferenceIdeal_pre_finite_bank (hKernelIdeal := hKernelIdeal) (hReferenceIdeal := hReferenceIdeal) (hPre_finite_bank := hPre_finite_bank)
-- ==== Pre_finite_bank.lean ====
abbrev S4096x512 : Shape := ⟨2, ![4096, 512]⟩
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S4096x512 .f32) (main_arg1 : FVec F S16384x512 .f32) : IVec S16384x512 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Kernel.lean ====
abbrev S4096x512 : Shape := ⟨2, ![4096, 512]⟩
abbrev S16384x512 : Shape := ⟨2, ![16384, 512]⟩
abbrev S4096 : Shape := ⟨1, ![4096]⟩
abbrev S1x128 : Shape := ⟨2, ![1, 128]⟩
abbrev S512x512 : Shape := ⟨2, ![512, 512]⟩
abbrev S2048x512 : Shape := ⟨2, ![2048, 512]⟩
abbrev S512 : Shape := ⟨1, ![512]⟩
abbrev S16384x1 : Shape := ⟨2, ![16384, 1]⟩
abbrev S2048 : Shape := ⟨1, ![2048]⟩
abbrev S2048x1 : Shape := ⟨2, ![2048, 1]⟩
abbrev S8192x512 : Shape := ⟨2, ![8192, 512]⟩
abbrev S8192x1 : Shape := ⟨2, ![8192, 1]⟩
abbrev S1x512 : Shape := ⟨2, ![1, 512]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S4096, .f32⟩
  | .hbm, ⟨3, _⟩ => ⟨S1x128, .f32⟩
  | .hbm, ⟨4, _⟩ => ⟨S1x1, .f32⟩
  | .hbm, ⟨5, _⟩ => ⟨S1, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S512, .f32⟩
  | .local _ .vmem, ⟨5, _⟩ => ⟨S512, .f32⟩
  | .local _ .vmem, ⟨6, _⟩ => ⟨S1x128, .f32⟩
  | .local _ .vmem, ⟨7, _⟩ => ⟨S16384x512, .fp8e4m3⟩
  | .local _ .vmem, ⟨8, _⟩ => ⟨S16384x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c2048_i32 : BitVec 32 := 2048#32
  let v7 : BitVec 32 := Scalar.muli arg1 c2048_i32
  let v9 : Index := Scalar.indexCast v7
  let c0_3 : Index := 0#32
  ![v9.toNat, 0]
def k0_off2 (i : grid0.Coords) : Fin 2 → Nat :=
  let arg1 : BitVec 32 := BitVec.ofNat 32 (i 1).val
  let c2048_i32 : BitVec 32 := 2048#32
  let v7 : BitVec 32 := Scalar.muli arg1 c2048_i32
  let v18 : Index := Scalar.indexCast v7
  let c0_5 : Index := 0#32
  ![v18.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c0_i32_19 : BitVec 32 := 0#32
  let v36 : BitVec 1 := Scalar.cmpi .eq arg1 c0_i32_19
  let v37 : BitVec 32 := Scalar.extui v36
  let c0_i32_20 : BitVec 32 := 0#32
  let v38 : BitVec 1 := Scalar.cmpi .ne v37 c0_i32_20
  v38

def k0_cond4 (i : grid0.Coords) : BitVec 1 :=
  let arg1 : BitVec 32 := BitVec.ofNat 32 (i 1).val
  let c0_i32_21 : BitVec 32 := 0#32
  let v39 : BitVec 1 := Scalar.cmpi .sgt arg1 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4096x512 : Shape := ⟨2, ![4096, 512]⟩
abbrev S16384x512 : Shape := ⟨2, ![16384, 512]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S1x16384 : Shape := ⟨2, ![1, 16384]⟩
abbrev S512x16384 : Shape := ⟨2, ![512, 16384]⟩
abbrev S4096x16384 : Shape := ⟨2, ![4096, 16384]⟩
abbrev S1x4096 : Shape := ⟨2, ![1, 4096]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S512x16384, .f32⟩
  | .hbm, ⟨12, _⟩ => ⟨S4096x16384, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S_, .f32⟩
  | .hbm, ⟨17, _⟩ => ⟨S4096x16384, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S4096x1, .f32⟩
  | .hbm, ⟨29, _⟩ => ⟨S4096x1, .i32⟩
  | .hbm, ⟨30, _⟩ => ⟨S4096x1, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S1x4096, .f32⟩
  | .hbm, ⟨37, _⟩ => ⟨S_, .f32⟩
  | .hbm, ⟨38, _⟩ => ⟨S1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Points.lean ====
/-
The kernel's body at a grid point: which of its branches run (in closed form over the points), the staging buffers it
is handed, and its two scratch buffers, which hold the converted memory bank and half the rows' squared norms.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The branch conditions -/

/-- The kernel's first phase (filling the scratch) is taken at points 0 to 7. -/
theorem fills_iff : ∀ t : Fin cfg0.N, k0_cond1 (grid0.coords t) = 1#1 ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val < 8)

/-- Its second phase (scoring a block of queries) is taken at points 8 to 15. -/
theorem scores_iff : ∀ t : Fin cfg0.N, k0_cond2 (grid0.coords t) = 1#1 ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [k0_cond2, e0, e1]
    word_cmp
   : ∀ t : Fin grid0.N, k0_cond2 (grid0.coords t) = 1#1 ↔ 8 ≤ t.val)

/-- Within the second phase, the running maximum is started at the first point of a row of eight. -/
theorem starts_iff : ∀ t : Fin cfg0.N, k0_cond3 (grid0.coords t) = 1#1 ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [k0_cond3, e0, e1]
    word_cmp
   : ∀ t : Fin grid0.N, k0_cond3 (grid0.coords t) = 1#1 ↔ t.val % 8 = 0)

/-- And it is raised at the other points. -/
theorem raises_iff : ∀ t : Fin cfg0.N, k0_cond4 (grid0.coords t) = 1#1 ↔ 1 ≤ t.val % 8 :=
  (by decide +kernel : ∀ t : Fin grid0.N, k0_cond4 (grid0.coords t) = 1#1 ↔ 1 ≤ t.val % 8)

/-! ## The buffers the body is handed -/

/-- The query block's staging buffer at point `t`. -/
abbrev stQ (t : Fin cfg0.N) : Memref sig .tc .vmem S512x512 .f32 := win0_0.stage (cfg0.slots t 0)
/-- The bank block's staging buffer at point `t`. -/
abbrev stB (t : Fin cfg0.N) : Memref sig .tc .vmem S2048x512 .f32 := win0_1.stage (cfg0.slots t 1)
/-- The patch scores' staging buffer at point `t`. -/
abbrev stP (t : Fin cfg0.N) : Memref sig .tc .vmem S512 .f32 := win0_2.stage (cfg0.slots t 2)
/-- The image score's staging buffer at point `t`. -/
abbrev stI (t : Fin cfg0.N) : Memref sig .tc .vmem S1x128 .f32 := win0_3.stage (cfg0.slots t 3)
/-- The scratch of bank rows. -/
abbrev scK : Memref sig .tc .vmem S16384x512 .fp8e4m3 := Memref.whole cc0_scratch0
/-- The scratch of half squared norms. -/
abbrev scN : Memref sig .tc .vmem S16384x1 .f32 := Memref.whole cc0_scratch1

/-- The region's scoped resources are the two scratch buffers at some contents and the generator register. -/
theorem scoped_eq (c : Dev nD) :
    (Pipeline.ΦA spec0 c : sProp 𝕄)
      = iprop(iprop((∃ d, owns (c : Thread nD τ) scK fullShare d) ∗ (∃ d, owns (c : Thread nD τ) scN fullShare d)) ∗ (∃ r, prngReg c r)) := by
  unfold Pipeline.ΦA; rw [scopedRest0_eq]; simp only [scK, scN, owns_whole]; try rfl

end Cert.KernelIdeal.Hand

end
-- ==== Proof.Fill.lean ====
/-
The body's first phase: it reads a block of bank rows and stores the rows into the first scratch buffer, half the rows'
squared norms into the second.
-/
module

public import proofs.«01_k».proof.Proof.Points
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- A run of the first phase alone: the staging buffers of the inputs are as they were, those of the results hold
anything, and each scratch buffer is what it was with the rows the body computes put in place. -/
theorem fill_body (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512 .f32) (harg4 : arg4.IsWhole) (arg5 : Memref sig .tc .vmem S1x128 .f32) (harg5 : arg5.IsWhole) (arg6 : Memref sig .tc .vmem S16384x512 .fp8e4m3) (harg6 : arg6.IsWhole) (arg7 : Memref sig .tc .vmem S16384x1 .f32) (harg7 : arg7.IsWhole) (hc0 : k0_cond1 i = 1#1) (hc1 : ¬k0_cond2 i = 1#1)
    (x0 : Vec F S512x512 .f32) (x1 : Vec F S2048x512 .f32) (d0 : Vec F S16384x512 .fp8e4m3) (d1 : Vec F S16384x1 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare d0 ∗ owns (c : Thread nD τ) arg7 fullShare d1
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare (VecWindow.put d0 (k0_off1 i) S2048x512.size (k0_pay1 x1)) ∗ owns (c : Thread nD τ) arg7 fullShare (VecWindow.put d1 (k0_off2 i) S2048x1.size (k0_pay2 x1))) -∗ K ⟨⟩))
          ⊢ wp frame (wpE (defs₀ (F := F)) Variants.none c none) E (cc0__knn_kernel i arg2 harg2 arg3 harg3 arg4 harg4 arg5 harg5 arg6 harg6 arg7 harg7) K := by
    intro E K
    simp only [cc0__knn_kernel_eq_skeleton]; unfold cc0__knn_kernel_skel
    unfold owns
    iintro ⟨⟨%f0, %hf0, H0⟩, ⟨%f1, %hf1, H1⟩, ⟨%d2, %f2, -, H2⟩, ⟨%d3, %f3, -, H3⟩, ⟨%fs0, %hs0, HS0⟩, ⟨%fs1, %hs1, HS1⟩, Hk⟩
    obtain rfl := harg2.eq_unread hf0; obtain rfl := harg3.eq_unread hf1
    obtain rfl := harg6.eq_unread hs0; obtain rfl := harg7.eq_unread hs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [HS0]
    · iexists _; isplitr; swap; · iexact HS0
      ipureintro
      rw [View.read_writes_cons_put _ _ _ _ _ rfl, View.readAt_full, hf1, View.writes_nil, hs0]
    iexists _; isplitr; swap; · iexact HS1
    ipureintro
    rw [View.read_writes_cons_put _ _ _ _ _ rfl, View.readAt_full, hf1, View.writes_nil, hs1]

end Cert.KernelIdeal.Hand

end
-- ==== Proof.Score.lean ====
/-
The body's second phase: it scores a block of queries against all the bank rows held in scratch, stores the scores, and
starts or raises the running maximum that is the image score.
-/
module

public import proofs.«01_k».proof.Proof.Points
public import Idealize.ShloMosaic.Lib.VecWindow
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first 8192 bank rows of the scratch. -/
def lowK (d0 : Vec F S16384x512 .fp8e4m3) : Vec F S8192x512 .fp8e4m3 := fun x =>
  d0 ((Rect.unit (s := S16384x512) ![0, 0] S8192x512.size inb_S16384x512_S8192x512_0_0).toLoadRect.idx x)
/-- The last 8192 bank rows of the scratch. -/
def highK (d0 : Vec F S16384x512 .fp8e4m3) : Vec F S8192x512 .fp8e4m3 := fun x =>
  d0 ((Rect.unit (s := S16384x512) ![8192, 0] S8192x512.size inb_S16384x512_S8192x512_8192_0).toLoadRect.idx x)
/-- Half the squared norms of the first 8192 rows. -/
def lowN (d1 : Vec F S16384x1 .f32) : Vec F S8192x1 .f32 := fun x =>
  d1 ((Rect.unit (s := S16384x1) ![0, 0] S8192x1.size inb_S16384x1_S8192x1_0_0).toLoadRect.idx x)
/-- Half the squared norms of the last 8192 rows. -/
def highN (d1 : Vec F S16384x1 .f32) : Vec F S8192x1 .f32 := fun x =>
  d1 ((Rect.unit (s := S16384x1) ![8192, 0] S8192x1.size inb_S16384x1_S8192x1_8192_0).toLoadRect.idx x)

/-- The scores the body stores for the query block `x0`, the scratch holding `d0` and `d1`. -/
def blockScore (x0 : Vec F S512x512 .f32) (d0 : Vec F S16384x512 .fp8e4m3) (d1 : Vec F S16384x1 .f32) : Vec F S512 .f32 :=
  k0_pay4 x0 (lowK d0) (lowN d1) (highK d0) (highN d1)
/-- The image score the body starts with: the largest score of the block, in every lane. -/
def imageStart (x0 : Vec F S512x512 .f32) (d0 : Vec F S16384x512 .fp8e4m3) (d1 : Vec F S16384x1 .f32) : Vec F S1x128 .f32 :=
  k0_pay6 x0 (lowK d0) (lowN d1) (highK d0) (highN d1)
/-- The image score `y` raised by the scores of the block. -/
def imageRaise (x0 : Vec F S512x512 .f32) (d0 : Vec F S16384x512 .fp8e4m3) (d1 : Vec F S16384x1 .f32) (y : Vec F S1x128 .f32) : Vec F S1x128 .f32 :=
  k0_pay3 (k0_pay5 x0 (lowK d0) (lowN d1) (highK d0) (highN d1)) y

/-- A load from a whole buffer whose contents read `X` reads `X` at the load's indices. -/
theorem readAt_unread_eq {κ : Kind} {sp : Space} {s : Shape} {e : EltTy} {a : Memref sig κ sp s e} (h : a.IsWhole) (X : s.Idx → Elt F e) (B : LoadRect s) :
    View.readAt (Elt F) a.view B (h.unread X) = fun x => X (B.idx x) :=
  funext fun x => h.readAt_unread X B x

set_option maxHeartbeats 1000000 in
/-- A run of the second phase at a point that starts the running maximum: the scratch is as it was, the scores are the
block's, and the image score is their maximum. -/
theorem start_body (c : Dev nD) (i : grid0.Coords) (arg2 : Memref sig .tc .vmem S512x512 .f32) (harg2 : arg2.IsWhole)
    (arg3 : Memref sig .tc .vmem S2048x512 .f32) (harg3 : arg3.IsWhole) (arg4 : Memref sig .tc .vmem S512 .f32) (harg4 : arg4.IsWhole)
    (arg5 : Memref sig .tc .vmem S1x128 .f32) (harg5 : arg5.IsWhole) (arg6 : Memref sig .tc .vmem S16384x512 .fp8e4m3) (harg6 : arg6.IsWhole)
    (arg7 : Memref sig .tc .vmem S16384x1 .f32) (harg7 : arg7.IsWhole)
    (hc0 : ¬k0_cond1 i = 1#1) (hc1 : k0_cond2 i = 1#1) (hc2 : k0_cond3 i = 1#1) (hc3 : ¬k0_cond4 i = 1#1)
    (x0 : Vec F S512x512 .f32) (x1 : Vec F S2048x512 .f32) (d0 : Vec F S16384x512 .fp8e4m3) (d1 : Vec F S16384x1 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare d0 ∗ owns (c : Thread nD τ) arg7 fullShare d1
            ∗ (iprop(owns (c : Thread nD τ) arg2 fullShare x0 ∗ owns (c : Thread nD τ) arg3 fullShare x1
              ∗ owns (c : Thread nD τ) arg4 fullShare (blockScore x0 d0 d1)
              ∗ owns (c : Thread nD τ) arg5 fullShare (imageStart x0 d0 d1)
              ∗ owns (c : Thread nD τ) arg6 fullShare d0 ∗ owns (c : Thread nD τ) arg7 fullShare d1) -∗ K ⟨⟩))
          ⊢ wp frame (wpE (defs₀ (F := F)) Variants.none c none) E
            (cc0__knn_kernel i arg2 harg2 arg3 harg3 arg4 harg4 arg5 harg5 arg6 harg6 arg7 harg7) K := by
    intro E K
    simp only [cc0__knn_kernel_eq_skeleton]; unfold cc0__knn_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hs0, HS0⟩, ⟨%fs1, %hs1, HS1⟩, Hk⟩
    obtain rfl := harg2.eq_unread hf0; obtain rfl := harg3.eq_unread hf1
    obtain rfl := harg6.eq_unread hs0; obtain rfl := harg7.eq_unread hs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_full]
      rw [View.readAt_full, hf0, readAt_unread_eq harg6, readAt_unread_eq harg7, readAt_unread_eq harg6, readAt_unread_eq harg7]
      rfl
    isplitl [H3]
    · iexists _; isplitr; swap; · iexact H3
      ipureintro
      rw [View.read_writes_full]
      rw [View.readAt_full, hf0, readAt_unread_eq harg6, readAt_unread_eq harg7, readAt_unread_eq harg6, readAt_unread_eq harg7]
      rfl
    isplitl [HS0]
    · iexists _; isplitr; · ipureintro; exact harg6.read_unread _
      iexact HS0
    iexists _; isplitr; · ipureintro; exact harg7.read_unread _
    iexact HS1

set_option maxHeartbeats 1000000 in
/-- A run of the second phase at a point that raises the running maximum, the image score being `y` before it. -/
theorem raise_body (c : Dev nD) (i : grid0.Coords) (arg2 : Memref sig .tc .vmem S512x512 .f32) (harg2 : arg2.IsWhole)
    (arg3 : Memref sig .tc .vmem S2048x512 .f32) (harg3 : arg3.IsWhole) (arg4 : Memref sig .tc .vmem S512 .f32) (harg4 : arg4.IsWhole)
    (arg5 : Memref sig .tc .vmem S1x128 .f32) (harg5 : arg5.IsWhole) (arg6 : Memref sig .tc .vmem S16384x512 .fp8e4m3) (harg6 : arg6.IsWhole)
    (arg7 : Memref sig .tc .vmem S16384x1 .f32) (harg7 : arg7.IsWhole)
    (hc0 : ¬k0_cond1 i = 1#1) (hc1 : k0_cond2 i = 1#1) (hc2 : ¬k0_cond3 i = 1#1) (hc3 : k0_cond4 i = 1#1)
    (x0 : Vec F S512x512 .f32) (x1 : Vec F S2048x512 .f32) (d0 : Vec F S16384x512 .fp8e4m3) (d1 : Vec F S16384x1 .f32)
    (y : Vec F S1x128 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare y ∗ owns (c : Thread nD τ) arg6 fullShare d0 ∗ owns (c : Thread nD τ) arg7 fullShare d1
            ∗ (iprop(owns (c : Thread nD τ) arg2 fullShare x0 ∗ owns (c : Thread nD τ) arg3 fullShare x1
              ∗ owns (c : Thread nD τ) arg4 fullShare (blockScore x0 d0 d1)
              ∗ owns (c : Thread nD τ) arg5 fullShare (imageRaise x0 d0 d1 y)
              ∗ owns (c : Thread nD τ) arg6 fullShare d0 ∗ owns (c : Thread nD τ) arg7 fullShare d1) -∗ K ⟨⟩))
          ⊢ wp frame (wpE (defs₀ (F := F)) Variants.none c none) E
            (cc0__knn_kernel i arg2 harg2 arg3 harg3 arg4 harg4 arg5 harg5 arg6 harg6 arg7 harg7) K := by
    intro E K
    simp only [cc0__knn_kernel_eq_skeleton]; unfold cc0__knn_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hs0, HS0⟩, ⟨%fs1, %hs1, HS1⟩, Hk⟩
    obtain rfl := harg2.eq_unread hf0; obtain rfl := harg3.eq_unread hf1
    obtain rfl := harg6.eq_unread hs0; obtain rfl := harg7.eq_unread hs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_full]
      rw [View.readAt_full, hf0, readAt_unread_eq harg6, readAt_unread_eq harg7, readAt_unread_eq harg6, readAt_unread_eq harg7]
      rfl
    isplitl [H3]
    · iexists _; isplitr; swap; · iexact H3
      ipureintro
      rw [View.read_writes_full]
      rw [View.readAt_full arg5.view, hf3]; unfold raise_body.sl.r; rw [View.readAt_full, hf0, readAt_unread_eq harg6, readAt_unread_eq harg7, readAt_unread_eq harg6, readAt_unread_eq harg7]
      rfl
    isplitl [HS0]
    · iexists _; isplitr; · ipureintro; exact harg6.read_unread _
      iexact HS0
    iexists _; isplitr; · ipureintro; exact harg7.read_unread _
    iexact HS1

end Cert.KernelIdeal.Hand

end
-- ==== Proof.Body.lean ====
/-
What the kernel's buffers hold at each grid point, and the proof that its body keeps to it: after `t` points the scratch
holds the first `2048 * t` bank rows and half their squared norms, from point 8 on the scores written back are those of
the point's query block against the whole bank, and the image score is the running maximum of them.
-/
module

public import proofs.«01_k».proof.Proof.Fill
public import proofs.«01_k».proof.Proof.Score
public import Idealize.ShloMosaic.Lib.Pipeline.DatRel
public import Idealize.ShloMosaic.Lib.Pointwise.Index

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F]

local notation "𝕄" => MT nD τ sig Unit (Elt F) ℕ (UR sig nD τ) ℕ

variable (m : (ℓ : Loc nD τ sig) → Buf (Elt F) ℓ)

/-! ## The contents -/

/-- The point at which bank row `r` is stored. -/
def rowPoint (r : Fin 16384) : Fin cfg0.N := ⟨r.val / 2048, by have := r.isLt; have h : cfg0.N = 16 := N_0; omega⟩

/-- The bank block read at point `t`. -/
def bankBlock (c : Dev nD) (t : Fin cfg0.N) : Vec F S2048x512 .f32 := iblk m c 1 t
/-- The query block read at point `t`. -/
def queryBlock (c : Dev nD) (t : Fin cfg0.N) : Vec F S512x512 .f32 := iblk m c 0 t

/-- The first scratch buffer once filled: every bank row as its block's store leaves it. -/
def bankK (c : Dev nD) : Vec F S16384x512 .fp8e4m3 := fun j =>
  k0_pay1 (bankBlock m c (rowPoint (j 0))) (ix2 (⟨(j 0).val % 2048, Nat.mod_lt _ (by decide)⟩ : Fin 2048) (j 1 : Fin 512))
/-- The second scratch buffer once filled. -/
def bankN (c : Dev nD) : Vec F S16384x1 .f32 := fun j =>
  k0_pay2 (bankBlock m c (rowPoint (j 0))) (ix2 (⟨(j 0).val % 2048, Nat.mod_lt _ (by decide)⟩ : Fin 2048) (j 1 : Fin 1))

/-- The scores of the query block of point `t` against the whole bank. -/
def scoreAt (c : Dev nD) (t : Fin cfg0.N) : Vec F S512 .f32 := blockScore (queryBlock m c t) (bankK m c) (bankN m c)

/-- The `n`-th point of the second phase. -/
def scorePoint (n : ℕ) : Fin cfg0.N := ⟨(8 + n) % 16, by have h : cfg0.N = 16 := N_0; omega⟩

/-- The image score after `n + 1` points of the second phase. -/
def imageAt (c : Dev nD) : ℕ → Vec F S1x128 .f32
  | 0 => imageStart (queryBlock m c (scorePoint 0)) (bankK m c) (bankN m c)
  | n + 1 => imageRaise (queryBlock m c (scorePoint (n + 1))) (bankK m c) (bankN m c) (imageAt c n)

/-- A point of the second phase is the one of its number. -/
theorem scorePoint_sub (t : Fin cfg0.N) (h : 8 ≤ t.val) : scorePoint (t.val - 8) = t :=
  Fin.ext (by have : t.val < 16 := Nat.lt_of_lt_of_eq t.isLt N_0; show (8 + (t.val - 8)) % 16 = t.val; omega)

/-! ## Filling the scratch -/

/-- Where the first phase stores bank rows at point `t`. -/
theorem off1_at (t : Fin cfg0.N) (h : t.val < 8) : k0_off1 (grid0.coords t) = ![2048 * t.val, 0] := by
  have e1 : (grid0.coords t 1).val = t.val / 1 % 8 := Pipeline.Grid.coords_val t 1 (by decide) rfl
  simp only [k0_off1, e1, Nat.div_one, Nat.mod_eq_of_lt h]
  obtain ⟨t, ht⟩ := t
  simp only at h ⊢
  have : t = 0 ∨ t = 1 ∨ t = 2 ∨ t = 3 ∨ t = 4 ∨ t = 5 ∨ t = 6 ∨ t = 7 := by omega
  rcases this with rfl | rfl | rfl | rfl | rfl | rfl | rfl | rfl <;> rfl
/-- Where it stores half the squared norms. -/
theorem off2_at (t : Fin cfg0.N) (h : t.val < 8) : k0_off2 (grid0.coords t) = ![2048 * t.val, 0] := off1_at t h

/-- Rows `2048 * t` to `2048 * t + 2047` put over contents right below row `2048 * t` are right below row
`2048 * (t + 1)`. -/
theorem put_rows {α : Type} {n : ℕ} (D d : (⟨2, ![16384, n]⟩ : Shape).Idx → α) (off : Fin 2 → ℕ) (t : ℕ) (hoff : off = ![2048 * t, 0])
    (w : (⟨2, ![2048, n]⟩ : Shape).Idx → α)
    (hw : ∀ j : (⟨2, ![16384, n]⟩ : Shape).Idx, 2048 * t ≤ (j 0).val → (j 0).val < 2048 * t + 2048 →
      D j = w (ix2 (⟨(j 0).val % 2048, Nat.mod_lt _ (by decide)⟩ : Fin 2048) (j 1 : Fin n)))
    (hd : ∀ j, (j 0).val < 2048 * t → d j = D j) :
    ∀ j, (j 0).val < 2048 * (t + 1) → VecWindow.put d off ![2048, n] w j = D j := by
  intro j hj
  subst hoff
  unfold VecWindow.put
  split
  · next h =>
    have h0 : 2048 * t ≤ (j 0).val ∧ (j 0).val < 2048 * t + 2048 := h 0
    rw [hw j h0.1 h0.2]
    congr 1
    funext a
    refine Fin.ext ?_
    rw [Rect.unitLocal_val]
    match a with
    | ⟨0, _⟩ => show (j 0).val - 2048 * t = (j 0).val % 2048; omega
    | ⟨1, _⟩ => rfl
  · next h =>
    apply hd
    by_contra hlt
    apply h
    intro a
    match a with
    | ⟨0, _⟩ => show 2048 * t ≤ (j 0).val ∧ (j 0).val < 2048 * t + 2048; omega
    | ⟨1, _⟩ => exact ⟨Nat.zero_le _, (Nat.zero_add n).symm ▸ (j 1).isLt⟩

/-- The point that stores a bank row is the one whose block holds the row. -/
theorem rowPoint_eq (t : Fin cfg0.N) (r : Fin 16384) (h : 2048 * t.val ≤ r.val) (h' : r.val < 2048 * t.val + 2048) : rowPoint r = t :=
  Fin.ext (by show r.val / 2048 = t.val; omega)

/-- One point of the first phase extends the filled rows of the first scratch buffer. -/
theorem fillK (c : Dev nD) (t : Fin cfg0.N) (h : t.val < 8) (d : Vec F S16384x512 .fp8e4m3)
    (hd : ∀ j, (j 0).val < 2048 * t.val → d j = bankK m c j) :
    ∀ j, (j 0).val < 2048 * (t.val + 1) →
      VecWindow.put d (k0_off1 (grid0.coords t)) S2048x512.size (k0_pay1 (bankBlock m c t)) j = bankK m c j :=
  put_rows (bankK m c) d _ t.val (off1_at t h) _ (fun j h0 h1 => by unfold bankK; rw [rowPoint_eq t (j 0) h0 h1]) hd
/-- And of the second. -/
theorem fillN (c : Dev nD) (t : Fin cfg0.N) (h : t.val < 8) (d : Vec F S16384x1 .f32)
    (hd : ∀ j, (j 0).val < 2048 * t.val → d j = bankN m c j) :
    ∀ j, (j 0).val < 2048 * (t.val + 1) →
      VecWindow.put d (k0_off2 (grid0.coords t)) S2048x1.size (k0_pay2 (bankBlock m c t)) j = bankN m c j :=
  put_rows (bankN m c) d _ t.val (off2_at t h) _ (fun j h0 h1 => by unfold bankN; rw [rowPoint_eq t (j 0) h0 h1]) hd

/-! ## The proof data -/

/-- The two result windows, of whose buffers a relation is stated. -/
def results : Fin 4 → Bool := fun w => w.val == 2 || w.val == 3

/-- After `n` points, the scratch buffers' first `2048 * n` rows are filled. -/
def filled (c : Dev nD) (n : ℕ) : sProp 𝕄 :=
  iprop(∃ (d0 : Vec F S16384x512 .fp8e4m3) (d1 : Vec F S16384x1 .f32),
    ⌜(∀ j, (j 0).val < 2048 * n → d0 j = bankK m c j) ∧ ∀ j, (j 0).val < 2048 * n → d1 j = bankN m c j⌝
      ∗ owns (c : Thread nD τ) scK fullShare d0 ∗ owns (c : Thread nD τ) scN fullShare d1 ∗ ∃ r, prngReg c r)

/-- The arrays as the region finds them, the input blocks left in place, and the scratch filled so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
  Φ t := filled m c t.val
  q _ := fullShare
  owed _ := 0

/-- What the body leaves in the result windows from point 8 on. -/
def leaves (c : Dev nD) (w : Fin cfg0.W) (t : Fin cfg0.N) : (((cfg0.win w).block.Idx → Elt F (cfg0.win w).elt) → Prop) :=
  match w with
  | ⟨2, _⟩ => fun X => 8 ≤ t.val → X = scoreAt m c t
  | ⟨3, _⟩ => fun X => 8 ≤ t.val → X = imageAt m c (t.val - 8)
  | _ => fun _ => True

/-- The arrays hold at the start what the region finds in memory. -/
theorem A_eq (c : Dev nD) (w : Fin cfg0.W) : (dats m 0 c).A w = V m c (Pipeline.arrRef spec0 w) := by
  dsimp only [dats]
/-- The body leaves the query block as it was. -/
theorem after_0 (c : Dev nD) (t : Fin cfg0.N) : (dats m 0 c).after 0 t = iblk m c 0 t := by dsimp only [dats]
/-- And the bank block. -/
theorem after_1 (c : Dev nD) (t : Fin cfg0.N) : (dats m 0 c).after 1 t = iblk m c 1 t := by dsimp only [dats]
/-- The body is handed the query block of its point. -/
theorem before_0 (c : Dev nD) (t : Fin cfg0.N) (d) : (dats m 0 c).before 0 t d = queryBlock m c t :=
  before0_0_of m (dats m 0 c) (A_eq m c 0) (after_0 m c) t d
/-- And the bank block of its point. -/
theorem before_1 (c : Dev nD) (t : Fin cfg0.N) (d) : (dats m 0 c).before 1 t d = bankBlock m c t :=
  before0_1_of m (dats m 0 c) (A_eq m c 1) (after_1 m c) t d

/-- The relational proof data of core `c`. -/
abbrev rdats (c : Dev nD) : Pipeline.RDat τ (Elt F) Unit ℕ (UR sig nD τ) ℕ cfg0 c := (dats m 0 c).toRRel results (leaves m c)

/-- The image score's buffer is not written back between two points of the second phase, so a later point finds there
what the point before it left. -/
theorem image_found (c : Dev nD) (t : Fin cfg0.N) (h : 8 < t.val) (Y : Vec F S1x128 .f32) (hY : (rdats m c).Finds 3 t Y) :
    Y = imageAt m c (t.val - 9) := by
  have hN : t.val < 16 := Nat.lt_of_lt_of_eq t.isLt N_0
  rcases ((rdats m c).finds_of_pos (w := 3) (t := t) rfl (by omega) Y).mp hY with hf | hl
  · have := (flush0_3 _).mp hf
    simp only at this
    omega
  · have e := (dats m 0 c).toRRel_leaves (fgt := results) (Rl := leaves m c) (w := 3) rfl hl
    have e' := e (by show 8 ≤ t.val - 1; omega)
    rw [e']
    show imageAt m c (t.val - 1 - 8) = _
    congr 1

/-! ## The body at a point -/

/-- What the body is handed at point `t`. -/
def bodyPre (c : Dev nD) (t : Fin cfg0.N) : sProp 𝕄 :=
  iprop(filled m c t.val ∗ (dats m 0 c).owesAt () t.castSucc
    ∗ (∃ d, owns (c : Thread nD τ) (stQ t) fullShare ((dats m 0 c).before 0 t d))
    ∗ (∃ d, owns (c : Thread nD τ) (stB t) fullShare ((dats m 0 c).before 1 t d))
    ∗ (∃ Y, ⌜(rdats m c).Finds 2 t Y⌝ ∗ owns (c : Thread nD τ) (stP t) fullShare Y)
    ∗ (∃ Y, ⌜(rdats m c).Finds 3 t Y⌝ ∗ owns (c : Thread nD τ) (stI t) fullShare Y))

/-- What it hands back. -/
def bodyPost (c : Dev nD) (t : Fin cfg0.N) : sProp 𝕄 :=
  iprop(filled m c (t.val + 1) ∗ (dats m 0 c).owesAt () t.succ
    ∗ owns (c : Thread nD τ) (stQ t) fullShare ((dats m 0 c).after 0 t)
    ∗ owns (c : Thread nD τ) (stB t) fullShare ((dats m 0 c).after 1 t)
    ∗ (∃ X, ⌜leaves m c 2 t X⌝ ∗ owns (c : Thread nD τ) (stP t) fullShare X)
    ∗ (∃ X, ⌜leaves m c 3 t X⌝ ∗ owns (c : Thread nD τ) (stI t) fullShare X))

set_option maxHeartbeats 1200000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, show (dats m 0 c).owesAt () t.succ = (dats m 0 c).owesAt () t.castSucc from rfl]
  have hN : t.val < 16 := Nat.lt_of_lt_of_eq t.isLt N_0
  unfold filled
  by_cases h8 : t.val < 8
  · iintro ⟨⟨%d0, %d1, %hd, HS0, HS1, Hg⟩, Ho, ⟨%_, H0⟩, ⟨%_, H1⟩, ⟨%Y2, -, H2⟩, ⟨%Y3, -, H3⟩⟩
    iapply ((fill_body c (grid0.coords t) _ _ _ _ _ _ _ _ _ _ _ _ ((fills_iff t).mpr h8) (fun h => absurd ((scores_iff t).mp h) (by omega)) (queryBlock m c t) (bankBlock m c t) d0 d1) Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%X2, H2⟩, ⟨%X3, H3⟩, HS0, HS1⟩
    isplitl [HS0 HS1 Hg]
    · iexists _, _
      isplitr
      · ipureintro; exact ⟨fillK m c t h8 d0 hd.1, fillN m c t h8 d1 hd.2⟩
      isplitl [HS0]; · iexact HS0
      isplitl [HS1]; · iexact HS1
      iexact Hg
    isplitl [Ho]; · iexact Ho
    isplitl [H0]; · iexact H0
    isplitl [H1]; · iexact H1
    isplitl [H2]
    · iexists _; isplitr; swap; · iexact H2
      ipureintro; intro h; exact absurd h8 (Nat.not_lt.mpr h)
    iexists _; isplitr; swap; · iexact H3
    ipureintro; intro h; exact absurd h8 (Nat.not_lt.mpr h)
  · have hle : 8 ≤ t.val := Nat.not_lt.mp h8
    by_cases h9 : t.val = 8
    · iintro ⟨⟨%d0, %d1, %hd, HS0, HS1, Hg⟩, Ho, ⟨%_, H0⟩, ⟨%_, H1⟩, ⟨%Y2, -, H2⟩, ⟨%Y3, -, H3⟩⟩
      have e0 : d0 = bankK m c := funext fun j => hd.1 j (by have := (j 0).isLt; have : (j 0).val < 16384 := this; omega)
      have e1 : d1 = bankN m c := funext fun j => hd.2 j (by have := (j 0).isLt; have : (j 0).val < 16384 := this; omega)
      subst e0 e1
      iapply ((start_body c (grid0.coords t) _ _ _ _ _ _ _ _ _ _ _ _ (fun h => h8 ((fills_iff t).mp h)) ((scores_iff t).mpr hle) ((starts_iff t).mpr (by omega)) (fun h => absurd ((raises_iff t).mp h) (by omega)) (queryBlock m c t) (bankBlock m c t) (bankK m c) (bankN m c)) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hg]
      · iexists _, _
        isplitr; swap
        · isplitl [HS0]; · iexact HS0
          isplitl [HS1]; · iexact HS1
          iexact Hg
        ipureintro; exact ⟨fun _ _ => rfl, fun _ _ => rfl⟩
      isplitl [Ho]; · iexact Ho
      isplitl [H0]; · iexact H0
      isplitl [H1]; · iexact H1
      isplitl [H2]
      · iexists _; isplitr; swap; · iexact H2
        ipureintro; intro h; rfl
      iexists _; isplitr; swap; · iexact H3
      ipureintro; intro h
      have e : t = scorePoint 0 := Fin.ext h9
      show _ = imageAt m c (t.val - 8)
      rw [e]; rfl
    · iintro ⟨⟨%d0, %d1, %hd, HS0, HS1, Hg⟩, Ho, ⟨%_, H0⟩, ⟨%_, H1⟩, ⟨%Y2, -, H2⟩, ⟨%Y3, %hY, H3⟩⟩
      have e0 : d0 = bankK m c := funext fun j => hd.1 j (by have := (j 0).isLt; have : (j 0).val < 16384 := this; omega)
      have e1 : d1 = bankN m c := funext fun j => hd.2 j (by have := (j 0).isLt; have : (j 0).val < 16384 := this; omega)
      subst e0 e1
      iapply ((raise_body c (grid0.coords t) _ _ _ _ _ _ _ _ _ _ _ _ (fun h => h8 ((fills_iff t).mp h)) ((scores_iff t).mpr hle) (fun h => absurd ((starts_iff t).mp h) (by omega)) ((raises_iff t).mpr (by omega)) (queryBlock m c t) (bankBlock m c t) (bankK m c) (bankN m c) Y3) Set.univ _)
      isplitl [H0]; · iexact H0
      isplitl [H1]; · iexact H1
      isplitl [H2]; · iexists _; iexact H2
      isplitl [H3]; · iexact H3
      isplitl [HS0]; · iexact HS0
      isplitl [HS1]; · iexact HS1
      iintro ⟨H0, H1, H2, H3, HS0, HS1⟩
      isplitl [HS0 HS1 Hg]
      · iexists _, _
        isplitr; swap
        · isplitl [HS0]; · iexact HS0
          isplitl [HS1]; · iexact HS1
          iexact Hg
        ipureintro; exact ⟨fun _ _ => rfl, fun _ _ => rfl⟩
      isplitl [Ho]; · iexact Ho
      isplitl [H0]; · iexact H0
      isplitl [H1]; · iexact H1
      isplitl [H2]
      · iexists _; isplitr; swap; · iexact H2
        ipureintro; intro h; rfl
      iexists _; isplitr; swap; · iexact H3
      ipureintro; intro h
      show _ = imageAt m c (t.val - 8)
      rw [image_found m c t (by omega) Y3 hY, show t.val - 8 = (t.val - 9) + 1 by omega, imageAt, show t.val - 9 + 1 = t.val - 8 by omega,
        scorePoint_sub t hle]

/-- The body table's row at point `t`'s slots is the body at the staging buffers of that point. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) :
    BodyObligationRel (dats (F := F) m 0 c) (defs₀ (F := F)) Variants.none () Set.univ results (leaves m c) := fun t => by
  rw [bigSep_W0, bigSep_W0, defs₀_row]
  exact triple_restated (sound_body m c t) rfl .rfl fun _ => .rfl

end Cert.KernelIdeal.Hand

end
-- ==== Proof.TailRun.lean ====
/-
A run of a program that is one pipelined region followed by host lines, of relational proof data: what the arrays may
hold at the exit, and the host lines' results computed from such contents.
-/
module

public import Idealize.ShloMosaic.Lib.Pipeline.FrameSuffix
public import Idealize.ShloMosaic.Lib.Pipeline.Quiescent

@[expose] public section

noncomputable section

namespace Cert.KernelIdeal.Hand

open Idealize.ShloMosaic Idealize.ShloMosaic.TcCoe Idealize.ShloMosaic.Pipeline
open Idealize.SL Idealize.SL.RA Idealize.SL.BI
open Idealize.SL.BI (sProp bigSep)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-! ## Arrays that are known only by a relation -/

section Arrays

variable {cfg : Cfg sig Λ₀} {c : Dev nD} (rd : RDat τ Val Unit ℕ (UR sig nD τ) ℕ cfg c) (n : ℕ)

/-- What the arrays hold after `n` points is some family of contents, each of them allowed. -/
theorem arrays_some : (rd.arraysAt n : sProp 𝕄) ⊢ iprop(∃ A, ⌜∀ w, rd.ArrAt w n (A w)⌝ ∗ rd.arrays A) := by
  unfold RDat.arraysAt RDat.arrays
  refine (BI.bigSep_exists_pi Finset.univ _).trans ?_
  iintro ⟨%A, H⟩
  ihave H := (BI.bigSep_pure_sep Finset.univ (fun w => rd.ArrAt w n (A w)) _) $$ H
  icases H with ⟨%h, H⟩
  iexists A
  isplitr
  · ipureintro; exact fun w => h w (Finset.mem_univ w)
  · iexact H

/-- Any family of allowed contents will do. -/
theorem arrays_these (A : (w : Fin cfg.W) → Buf Val ((cfg.win w).arr.view.loc (c.tc : Thread nD τ))) (h : ∀ w, rd.ArrAt w n (A w)) :
    (rd.arrays A : sProp 𝕄) ⊢ rd.arraysAt n := by
  unfold RDat.arraysAt RDat.arrays
  have one : ∀ w, ((cfg.win w).arr.view.loc (c.tc : Thread nD τ) ↦[(cfg.win w).arr.view.set]{rd.share w} A w : sProp 𝕄)
      ⊢ iprop(∃ F, ⌜rd.ArrAt w n F⌝ ∗ (cfg.win w).arr.view.loc (c.tc : Thread nD τ) ↦[(cfg.win w).arr.view.set]{rd.share w} F) := fun w => by
    iintro H
    iexists (A w)
    isplitr
    · ipureintro; exact h w
    · iexact H
  exact BI.bigSep_mono fun w _ => one w

end Arrays

/-! ## The launch -/

variable (pcs : P → PCfg sig Λ₀ Val) (a : (p : P) → (pcs p).Adm) (p : P) (kit : PLaunchFacts₀ (nD := nD) (τ := τ) pcs p)
variable (rd : (q : P) → (c : Dev nD) → RDat τ Val Unit ℕ (UR sig nD τ) ℕ (pin pcs a q) c)
variable (V : Dev nD → Valuation τ sig Val) (lines : List (List (HloOp τ sig Val)))

/-- The buffers of a core after the host lines, run from the contents `A` of the arrays. -/
def afterLines (c : Dev nD) (A : (w : Fin (pin pcs a p).W) → Buf Val (((pin pcs a p).win w).arr.view.loc (c.tc : Thread nD τ)))
    (b : Ref sig .tc) : Buf Val ((c.tc : Thread nD τ).loc b) :=
  StableHlo.after lines.flatten (withArrays (pin pcs a p).spec c (V c) A) (Proc.devRef .tc b)

/-- What a final state holds: the arrays contents they may hold after every write-back, and every other unscoped buffer
what the host lines leave there when run from such contents of the arrays. -/
def TailPost (r : PUnit × MemSt nD τ sig Val) : Prop :=
  ∀ c : Dev nD, (∀ w, (rd p c).ArrAt w (pin pcs a p).N (r.2.mem (((pin pcs a p).spec w).arr.view.loc (c.tc : Thread nD τ))))
    ∧ ∃ A, (∀ w, (rd p c).ArrAt w (pin pcs a p).N (A w)) ∧ ∀ b ∈ restRefsP sig (pcs p).pre (pin pcs a p).spec,
        r.2.mem ((c.tc : Thread nD τ).loc b) = afterLines pcs a p V lines c A b

/-- The buffers outside the arrays, after the lines were run from some allowed contents of the arrays. -/
def restAfter (c : Dev nD) : sProp 𝕄 :=
  iprop(∃ A, ⌜∀ w, (rd p c).ArrAt w (pin pcs a p).N (A w)⌝ ∗ unscopedRestP (pcs p).pre (pin pcs a p).spec c (afterLines pcs a p V lines c A))

/-- They are read back at the end. -/
theorem restAfter_read (c : Dev nD) (s : Phys nD τ sig Val) :
    iprop(restAfter pcs a p rd V lines c ∗ SI s : sProp 𝕄) ⊢ iprop(⌜∃ A, (∀ w, (rd p c).ArrAt w (pin pcs a p).N (A w))
      ∧ ∀ b ∈ restRefsP sig (pcs p).pre (pin pcs a p).spec, s.mem.mem ((c.tc : Thread nD τ).loc b) = afterLines pcs a p V lines c A b⌝ ∗ SI s) := by
  unfold restAfter unscopedRestP
  iintro ⟨⟨%A, %hA, H⟩, HS⟩
  ihave H := (pointsTo_read_all (restRefsP sig (pcs p).pre (pin pcs a p).spec) (fun b => (c.tc : Thread nD τ).loc b)
    (afterLines pcs a p V lines c A) s) $$ [H HS]
  · isplitl [H] <;> iassumption
  icases H with ⟨%h, HS⟩
  isplitr
  · ipureintro; exact ⟨A, hA, h⟩
  · iexact HS

variable (defs₀ : Defs nD τ sig Val Λ₀) (𝒱₀ : Variants)

include kit in
/-- The host lines run from the region's exit to `restAfter`, and leave the arrays as they found them. -/
theorem lines_run (hq : ∀ c w, ((pin pcs a p).spec w).isOut = false → (rd p c).q w = shareOf (pin pcs a p).spec w)
    (hA : ∀ c w, (rd p c).A w = V c (Proc.devRef .tc (arrRef (pin pcs a p).spec w)))
    (hsub : ∀ ops ∈ lines, ∀ op ∈ ops, op.bufs ⊆ tailRefs sig (pcs p).pre (pin pcs a p).spec)
    (hfresh : ∀ ops ∈ lines, ∀ op ∈ ops, op.fresh = ∅)
    (hkeep : ∀ ops ∈ lines, ∀ op ∈ ops, ∀ w, Proc.devRef .tc (arrRef (pin pcs a p).spec w) ∉ op.writes)
    (c : Dev nD) (Q : PUnit → sProp 𝕄) :
    iprop((iprop(boundary (c.tc : Thread nD τ) ∗ (rd p c).arraysAt (pin pcs a p).N ∗ restAfter pcs a p rd V lines c) -∗ Q ⟨⟩)
        ∗ boundary (c.tc : Thread nD τ) ∗ (rd p c).arraysAt (pin pcs a p).N
        ∗ unscopedRestP (pcs p).pre (pin pcs a p).spec c (fun b => V c (Proc.devRef .tc b)))
      ⊢ wp frame (wpE (Pipeline.defs pcs defs₀) (Variants.lift 𝒱₀) (c.tc : Thread nD τ) none) Set.univ (chain (lines.map StableHlo.seq)) Q := by
  iintro ⟨HQ, Hb, Ha, Hr⟩
  ihave Ha := (arrays_some (rd p c) (pin pcs a p).N) $$ Ha
  icases Ha with ⟨%A, %h, Ha⟩
  have e := (rd p c).arrBufs_eq_arrays kit.sharedIn kit.arr_whole (hq c) (fun b => withArrays (pin pcs a p).spec c (V c) A (Proc.devRef .tc b)) A
    fun w => (withArrays_arr_shared (pin pcs a p).spec c (V c) A ((rd p c).ArrAt_sharedIn kit.sharedIn (V c) (hA c) (pin pcs a p).N A h) w).symm
  iapply (tail_seqs_bufs_b pcs defs₀ 𝒱₀ (pcs p).pre (pin pcs a p).spec c (V c) A lines hsub hfresh hkeep Q)
  isplitl [HQ]
  · iintro ⟨Hb, Ha, Hr⟩
    iapply HQ
    isplitl [Hb]
    · iexact Hb
    isplitl [Ha]
    · iapply ((Entails.of_eq e).trans (arrays_these (rd p c) (pin pcs a p).N A h)); iexact Ha
    · unfold restAfter
      iexists A
      isplitr
      · ipureintro; exact h
      · iexact Hr
  · isplitl [Hb]
    · iexact Hb
    isplitl [Ha]
    · iapply (Entails.of_eq e.symm); iexact Ha
    · iexact Hr

include kit in
/-- Every run of the program terminates, with `TailPost` and no semaphore count left. -/
theorem run_tail (m : (ℓ : Loc nD τ sig) → Buf Val ℓ) (g : Dev nD → PrngReg)
    (main : Dev nD → Prog (TpuEff nD τ sig Val (Sig Λ₀ P fun p => (pcs p).Adm) .tc) PUnit)
    (hbody : ∀ c, (rd p c).BodyObligation defs₀ 𝒱₀ () Set.univ)
    (hq : ∀ c w, ((pin pcs a p).spec w).isOut = false → (rd p c).q w = shareOf (pin pcs a p).spec w) (howed : ∀ c t, (rd p c).owed t = 0)
    (hsub : ∀ ops ∈ lines, ∀ op ∈ ops, op.bufs ⊆ tailRefs sig (pcs p).pre (pin pcs a p).spec)
    (hfresh : ∀ ops ∈ lines, ∀ op ∈ ops, op.fresh = ∅)
    (hkeep : ∀ ops ∈ lines, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V c (Proc.devRef .tc b)) (fun _ => chain (lines.map StableHlo.seq)))
    (hA : ∀ c w, (rd p c).A w = V c (Proc.devRef .tc (arrRef (pin pcs a p).spec w)))
    (hpf : ∀ c k, V c (Proc.devRef .tc ((pcs p).pre.ref k)) = (a p).1 k)
    (hin : ∀ c, (ΦA (pin pcs a p).spec c : sProp 𝕄) ⊢ (rd p c).Φ 0)
    (hout : ∀ c, (rd p c).Φ (Fin.last (pin pcs a p).N) ⊢ ΦA (pin pcs a p).spec c) :
    θ_run (Pipeline.defs pcs defs₀) (onTc main) (s₀ m g) (fun r => TailPost pcs a p rd V lines r ∧ r.2.sem = fun _ => 0) := by
  classical
  refine RDat.θ_run_region_pf_tail_quiescent pcs a rd () (kit.cellOf_inj a) p kit.win (OwnSemFacts.none (pin pcs a p).spec) kit.pre emb₁
    defs₀ 𝒱₀ m g main (fun _ => chain (lines.map StableHlo.seq)) hbody kit.block_pos kit.arr_whole kit.stage_whole howed
    (fun _ => iprop(emp)) (initOf (cells (pin pcs a) (kit.cellOf_inj a)) (launchToks (pin pcs a) (kit.cellOf_inj a))) ?_
    (fun c b => V c (Proc.devRef .tc b)) hmain
    (fun c => (rd p c).arrays_split_shared kit.sharedIn kit.arr_whole (hq c) _ _ (hA c)) hpf
    (fun c => iprop(∃ r, prngReg c r)) (fun c => iprop(∃ r, prngReg c r))
    (fun c => unscopedRestP (pcs p).pre (pin pcs a p).spec c (fun b => V c (Proc.devRef .tc b)))
    (restAfter pcs a p rd V lines) ?_ ?_ ?_
    (lines_run pcs a p kit rd V lines defs₀ 𝒱₀ hq hA hsub hfresh hkeep)
    (fun c s => ∃ A, (∀ w, (rd p c).ArrAt w (pin pcs a p).N (A w)) ∧ ∀ b ∈ restRefsP sig (pcs p).pre (pin pcs a p).spec,
      s.mem ((c.tc : Thread nD τ).loc b) = afterLines pcs a p V lines c A b) ?_ ?_
  · -- the ghost state of the region's semaphores, and nothing else
    rw [show (fun _ : Dev nD => (iprop(emp) : sProp 𝕄)) = fun _ => BI.emp from rfl, BI.bigSep_emp_const]
    change (BI.own (emb₁ (initOf (cells (pin pcs a) (kit.cellOf_inj a)) (launchToks (pin pcs a) (kit.cellOf_inj a)))) : sProp 𝕄) ⊢ _
    iintro H
    imodintro
    isplitl [H]
    · iexact H
    · iempintro
  · -- what goes into the region besides the arrays: the generator's register
    intro c
    iintro ⟨Hr, -, -, Hg, -⟩
    imodintro
    isplitl [Hg]
    · iexists _; iexact Hg
    · iexact Hr
  · intro c
    refine BI.BIBase.Entails.trans ?_ (hin c)
    unfold ΦA
    iintro ⟨Hg, -, Hs⟩
    isplitl [Hs] <;> iassumption
  · -- and what comes out of it
    intro c
    refine (hout c).trans ?_
    rw [ownSems0_none]
    unfold ΦA
    iintro ⟨Hs, Hg⟩
    isplitl [Hg]
    · iexact Hg
    isplitr
    · iempintro
    · iexact Hs
  · intro c s
    iintro ⟨-, H, HS⟩
    imodintro
    iapply (restAfter_read pcs a p rd V lines c s)
    isplitl [H] <;> iassumption
  · exact fun s h hz => ⟨fun c => ⟨(h c).1, (h c).2.2⟩, hz⟩

end Cert.KernelIdeal.Hand

end
-- ==== Proof.Run.lean ====
/-
Every run of the kernel's program: its two result arrays hold the scores of the second phase and the image score, its
argument arrays are unchanged, and no semaphore count is left.
-/
module

public import proofs.«01_k».proof.Proof.Body
public import proofs.«01_k».proof.Proof.TailRun
public import Idealize.ShloMosaic.Lib.Pipeline.ArrRel
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

/-! ## An array element after the last write-back that covers it -/

section Last

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD}

/-- If point `t` writes back its block of `G` and no later point's block covers the index `i` of it, then `i` reads `G`
after any number of points beyond `t`. -/
theorem arrAt_of_last (dat : Dat τ Val Ix Name U Lvl cfg c) (w : Fin cfg.W) (G : Buf Val ((cfg.win w).arr.view.loc (c.tc : Thread nD τ)))
    (t : Fin cfg.N) (i : ((cfg.win w).arr.view.loc (c.tc : Thread nD τ)).2.ty.Idx) (hf : (cfg.win w).flush t = true)
    (hi : i ∈ ((cfg.win w).blk t).view.set) (hG : dat.flushed w t = ((cfg.win w).blk t).view.read Val G)
    (hl : ∀ u : Fin cfg.N, t.val < u.val → i ∉ ((cfg.win w).blk u).view.set) :
    ∀ n : Nat, t.val < n → dat.arrAt w n i = G i
  | 0, h => absurd h (Nat.not_lt_zero _)
  | n + 1, h => by
    rw [dat.arrAt_succ_apply]
    by_cases hn : n < cfg.N
    swap
    · rw [dif_neg hn]
      exact arrAt_of_last dat w G t i hf hi hG hl n (by have := t.isLt; omega)
    rw [dif_pos hn]
    by_cases htn : t.val = n
    · have e : t = ⟨n, hn⟩ := Fin.ext htn
      rw [← e, if_pos hf, hG, View.write_read_eq_piecewise, Finset.piecewise_eq_of_mem]
      rw [View.setOn_univ]; exact hi
    · have hlt : t.val < n := by omega
      by_cases hfn : (cfg.win w).flush ⟨n, hn⟩ = true
      · rw [if_pos hfn, View.write_of_not_mem]
        · exact arrAt_of_last dat w G t i hf hi hG hl n hlt
        · rw [View.setOn_univ]; exact hl ⟨n, hn⟩ hlt
      · rw [if_neg hfn]
        exact arrAt_of_last dat w G t i hf hi hG hl n hlt

end Last

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result arrays -/

/-- The scores of all the queries. -/
def patches (c : Dev nD) : Vec F S4096 .f32 := fun j =>
  scoreAt m c (scorePoint ((j 0).val / 512)) (ix1 (⟨(j 0).val % 512, Nat.mod_lt _ (by decide)⟩ : Fin 512))

/-- The block of scores that each point writes. -/
theorem index_2 : ∀ t : Fin cfg0.N, win0_2.index t = ![t.val % 8] :=
  (by decide +kernel : ∀ t : Fin grid0.N, _)

/-- The array of the scores, after the last write-back. -/
theorem patches_of_arrAt (c : Dev nD) (G : Vec F S4096 .f32) (hG : (rdats m c).ArrAt 2 cfg0.N G) : G = patches m c := by
  obtain ⟨X, hX, hA⟩ := hG.exists_exact
  have e := hA (Function.update (fun _ _ _ => Classical.arbitrary _) 2 X) fun u _ _ => by rw [Function.update_self]
  rw [e]
  funext j
  have hj : (j 0).val < 4096 := (j 0).isLt
  have hN : cfg0.N = 16 := N_0
  have hs : (scorePoint ((j 0).val / 512)).val = 8 + (j 0).val / 512 := by
    show (8 + (j 0).val / 512) % 16 = _; omega
  refine arrAt_of_last _ 2 (patches m c) (scorePoint ((j 0).val / 512)) j (flush0_2 _) ?_ ?_ ?_ cfg0.N (Fin.isLt _)
  · mem_blk [index_2]
    omega
  · funext y
    blk_simp
    have hl := (dats m 0 c).toRRel_leaves (fgt := results) (Rl := leaves m c) (w := 2) rfl
      (hX (scorePoint ((j 0).val / 512)) (Fin.isLt _) (flush0_2 _))
    have hl' := hl (by rw [hs]; omega)
    rw [Pipeline.RDat.withAfter_after, Function.update_self, hl']
    have hy : (y 0).val < 512 := (y 0).isLt
    have he : ((((win0_2.blk (scorePoint ((j 0).val / 512))).view.emb y) 0 : Fin _) : ℕ) = (j 0).val / 512 * 512 + (y 0).val := by
      blk_simp [index_2]
      rw [hs]
      omega
    unfold patches
    have h1 : scorePoint (((((win0_2.blk (scorePoint ((j 0).val / 512))).view.emb y) 0 : Fin _) : ℕ) / 512) = scorePoint ((j 0).val / 512) := by
      rw [he]; congr 1; omega
    have h2 : (ix1 (⟨((((win0_2.blk (scorePoint ((j 0).val / 512))).view.emb y) 0 : Fin _) : ℕ) % 512, Nat.mod_lt _ (by decide)⟩ : Fin 512) : S512.Idx) = y := by
      funext a
      refine Fin.ext ?_
      match a with
      | ⟨0, _⟩ => show ((((win0_2.blk (scorePoint ((j 0).val / 512))).view.emb y) 0 : Fin _) : ℕ) % 512 = (y 0).val; rw [he]; omega
    exact (congrArg₂ (fun t z => scoreAt m c t z) h1 h2).symm
  · intro u hu
    rw [hs] at hu
    have := u.isLt
    mem_blk [index_2]
    omega

/-- The array of the image score, after the last write-back. -/
theorem image_of_arrAt (c : Dev nD) (G : Vec F S1x128 .f32) (hG : (rdats m c).ArrAt 3 cfg0.N G) : G = imageAt m c 7 := by
  obtain ⟨X, hX, hA⟩ := hG.emb_eq_of_wholeAt (t₀ := scorePoint 7) (by decide +kernel)
  have hl := (dats m 0 c).toRRel_leaves (fgt := results) (Rl := leaves m c) (w := 3) rfl hX
  have hl' := hl (by decide)
  rw [hl'] at hA
  funext j
  exact hA j

/-! ## The run -/

/-- Nothing is filled before the first point. -/
theorem filled_first (c : Dev nD) : (Pipeline.ΦA spec0 c : sProp 𝕄) ⊢ filled m c 0 := by
  rw [scoped_eq]; unfold filled
  iintro ⟨⟨⟨%d0, H0⟩, ⟨%d1, H1⟩⟩, Hg⟩
  iexists d0, d1
  isplitr
  · ipureintro; exact ⟨fun j h => absurd h (Nat.not_lt_zero _), fun j h => absurd h (Nat.not_lt_zero _)⟩
  isplitl [H0]; · iexact H0
  isplitl [H1]; · iexact H1
  iexact Hg

/-- After the last point the scratch is given back. -/
theorem filled_last (c : Dev nD) (n : ℕ) : filled m c n ⊢ (Pipeline.ΦA spec0 c : sProp 𝕄) := by
  rw [scoped_eq]; unfold filled
  iintro ⟨%d0, %d1, -, H0, H1, Hg⟩
  isplitl [H0 H1]
  · isplitl [H0]
    · iexists d0; iexact H0
    iexists d1; iexact H1
  iexact Hg

set_option backward.isDefEq.respectTransparency.types false in
set_option maxHeartbeats 800000 in
/-- The program's run, with what the arrays may hold. -/
theorem run_rel : θ_run defs (onTc (τ := τ) (main (F := F))) (s₀ m ρ) (fun r =>
    TailPost (fun q => (cfgs q).toPCfg (Val := Elt F)) (fun q => (cfgs q).toPCfg_adm) 0 (fun _ => rdats m) (V0 m) [hostOps1] r ∧ r.2.sem = fun _ => 0) :=
  run_tail (fun q => (cfgs q).toPCfg (Val := Elt F)) (fun q => (cfgs q).toPCfg_adm) 0 launch0.toP.to₀ (fun _ => rdats m) (V0 m) [hostOps1]
    defs₀ Variants.none m ρ main (fun c => (body_obligation m c).toRRel)
    (fun c w hw => (rdats m c).q_eq_shareOf_of_share_full launch0.win.arr_inj ((dats m 0 c).share_full fun _ => rfl) w hw)
    (fun _ _ => rfl) sfx_sub sfx_fresh sfx_keeps (hmain m Variants.none) (A_eq m) (fun _ k => k.elim0)
    (filled_first m) (fun c => filled_last m c _)

/-- What every run ends with. -/
def Ends (r : PUnit × MemSt nD τ sig (Elt F)) : Prop := ∀ c : Dev nD,
  r.2.mem ((c : Thread nD τ).loc main_v0_0) = patches m c
    ∧ r.2.mem ((c : Thread nD τ).loc main_v2) = shapeCast S1 (extractStridedSlice S1x1 ![0, 0] (imageAt m c 7) slices_S1x128_S1x1_0_0) shapeCasts_S1x1_S1
    ∧ r.2.mem ((c : Thread nD τ).loc main_arg0) = m ((c : Thread nD τ).loc main_arg0)
    ∧ r.2.mem ((c : Thread nD τ).loc main_arg1) = m ((c : Thread nD τ).loc main_arg1)

/-- The image score's buffer is none of the region's arrays. -/
theorem v2_rest : main_v2 ∈ Pipeline.restRefsP sig (Pipeline.Cfg.toPCfg (Val := Elt F) (cfgs 0)).pre spec0 := by
  refine Finset.mem_sdiff.mpr ⟨Pipeline.mem_restRefs_of main_v2 (by decide) (by decide), fun h => ?_⟩
  obtain ⟨k, -, -⟩ := Finset.mem_image.mp h
  exact k.elim0

/-- What the host lines leave there. -/
theorem tail_result (V : Valuation τ sig (Elt F)) : StableHlo.after [hostOps1].flatten V (Proc.devRef .tc main_v2)
    = shapeCast S1 (extractStridedSlice S1x1 ![0, 0] (V (Proc.devRef .tc main_v0_1) : Vec F S1x128 .f32) slices_S1x128_S1x1_0_0) shapeCasts_S1x1_S1 := by
  show StableHlo.after hostOps1 V (Proc.devRef .tc main_v2) = _
  after_results
  rfl

/-- Every run of the kernel's program ends with the scores, the image score, the arguments unchanged, and no semaphore
count left. -/
theorem run : θ_run defs (onTc (τ := τ) (main (F := F))) (s₀ m ρ) (fun r => Ends m r ∧ r.2.sem = fun _ => 0) := by
  refine (θ_run defs _ _).mono (fun r h => ⟨fun c => ?_, h.2⟩) (run_rel m ρ)
  obtain ⟨ha, A, hA, hb⟩ := h.1 c
  refine ⟨patches_of_arrAt m c _ (ha 2), ?_, ?_, ?_⟩
  · refine (hb main_v2 v2_rest).trans ?_
    have e := image_of_arrAt m c _ (hA 3)
    have h3 : Pipeline.withArrays spec0 c (V0 m c) A (Proc.devRef .tc main_v0_1) = imageAt m c 7 :=
      (Pipeline.withArrays_arr spec0 launch0.win.arr_inj c (V0 m c) A 3).trans e
    exact (tail_result _).trans (by rw [h3])
  · exact ((congrFun ((rdats m c).ArrAt_in 0 rfl _) _).mp (ha 0)).trans ((A_eq m c 0).trans (V_main_arg0 m c))
  · exact ((congrFun ((rdats m c).ArrAt_in 1 rfl _) _).mp (ha 1)).trans ((A_eq m c 1).trans (V_main_arg1 m c))

end Cert.KernelIdeal.Hand

end
-- ==== Proof.KernelFrame.lean ====
/-
The frame of the kernel's own program. Its text is the ideal program's, so the run proved there over any reading of the
floats is also a run of it, over the words.
-/
module

public import proofs.«01_k».proof.Defs
public import proofs.«01_k».proof.Proof.Gen.Kernel
public import proofs.«01_k».proof.Proof.Run

@[expose] public section

noncomputable section

namespace Cert.Kernel.Hand

open Idealize.ShloMosaic Idealize.SL.Sem

/-- The two programs' bodies are the same. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, (t, s) => rfl

/-- And so are the regions around them. -/
theorem defs_eq : Cert.Kernel.defs (F := Bits) = Cert.KernelIdeal.defs (F := Bits) :=
  congrArg (Pipeline.defs Cert.KernelIdeal.pcfgs) bodies_eq

/-- The kernel's program ends, its arguments unchanged and every semaphore counter at zero. -/
theorem kernel_frame : Cert.quiescent_Kernel := fun m ρ _ => by
  rw [defs_eq]
  exact (θ_run (Cert.KernelIdeal.defs (F := Bits)) _ _).mono (fun _ h => ⟨fun c => ⟨(h.1 c).2.2.1, (h.1 c).2.2.2⟩, h.2⟩)
    (Cert.KernelIdeal.Hand.run (F := Bits) m ρ)

end Cert.Kernel.Hand

end
-- ==== Proof.Greatest.lean ====
/-
The largest element of a finite family of extended reals, in the forms in which it is computed: as a running maximum, as
a maximum of parts, and as the first element of a descending sort; and the square root keeps the order.
-/
module

public import Idealize.ShloMosaic.Lib.Pointwise
public import Idealize.ShloMosaic.Lib.SortFacts
public import Idealize.ShloMosaic.PureOps.Ideal.Laws

@[expose] public section

noncomputable section

namespace Cert.Nearest

open Idealize.ShloMosaic

/-- The word of minus infinity. -/
theorem negInf_eq : Ideal.ofBits .f32 0xFF800000#32 = (⊥ : EReal) := by simp [Ideal.ofBits, Ideal.ieee]
/-- The word of two. -/
theorem two_eq : Ideal.ofBits .f32 0x40000000#32 = ((2 : ℝ) : EReal) := by
  simp [Ideal.ofBits, Ideal.ieee, -EReal.coe_mul]; norm_num
/-- The word of a half. -/
theorem half_eq : Ideal.ofBits .f32 0x3F000000#32 = ((1 / 2 : ℝ) : EReal) := by
  simp [Ideal.ofBits, Ideal.ieee, -EReal.coe_mul]; norm_num

/-- A running maximum from minus infinity over a non-empty family is the family's largest element. -/
theorem isGreatest_fold {ι : Type} [Fintype ι] [Nonempty ι] (f : ι → EReal) :
    IsGreatest (Set.range f) (Finset.univ.fold max (Ideal.ofBits .f32 0xFF800000#32) f) := by
  rw [negInf_eq]
  have h : Finset.univ.fold max (⊥ : EReal) f = Finset.univ.sup f := rfl
  rw [h]
  constructor
  · obtain ⟨k, -, hk⟩ := Finset.exists_mem_eq_sup Finset.univ Finset.univ_nonempty f
    exact ⟨k, hk.symm⟩
  · rintro _ ⟨k, rfl⟩
    exact Finset.le_sup (Finset.mem_univ k)

/-- The square root keeps the order of the extended reals. -/
theorem sqrt_mono : Monotone Ideal.sqrt := by
  intro x y h
  induction x with
  | bot => exact bot_le
  | top => rw [top_le_iff.mp h]
  | coe a =>
    induction y with
    | bot => exact absurd h (by simp)
    | top => exact le_top
    | coe b =>
      have hab : a ≤ b := EReal.coe_le_coe_iff.mp h
      show (if a < 0 then (⊥ : EReal) else (Real.sqrt a : EReal)) ≤ if b < 0 then (⊥ : EReal) else (Real.sqrt b : EReal)
      by_cases ha : a < 0
      · rw [if_pos ha]; exact bot_le
      · rw [if_neg ha, if_neg (by linarith)]
        exact EReal.coe_le_coe_iff.mpr (Real.sqrt_le_sqrt hab)

/-- The first element of a descending sort of a row is the row's largest element. -/
theorem isGreatest_topK (x : (⟨2, ![4096, 16384]⟩ : Shape).Idx → EReal) (h : (⟨2, ![4096, 16384]⟩ : Shape).Slices (fun _ => 0) ⟨2, ![4096, 1]⟩)
    (r : Fin 4096) (z : Fin 1) :
    IsGreatest (Set.range fun k : Fin 16384 => x (ix2 r k))
      ((Host.topK ⟨2, ![4096, 1]⟩ 1 (FloatOps.cmpfTotal (F := Ideal) (φ := .f32) .gt) x h).1 (ix2 r z)) := by
  let f : Fin 16384 → EReal := fun k => x (ix2 r k)
  let B : Fin 16384 → Fin 16384 → Bool := fun k k' => FloatOps.cmpfTotal (F := Ideal) (φ := .f32) .gt (f k) (f k') == 1#1
  have hB : ∀ k k', B k k' = decide (f k' < f k) := fun k k' => by
    show (BitVec.ofBool (decide (f k' < f k)) == 1#1) = _
    cases decide (f k' < f k) <;> rfl
  have halong : ∀ (j : (⟨2, ![4096, 16384]⟩ : Shape).Idx) (k : Fin 16384), j 0 = r → j.along (1 : Fin 2) k = ix2 r k := fun j k hj => by
    funext b
    match b with
    | ⟨0, _⟩ => exact hj
    | ⟨1, _⟩ => rfl
  have e : (Host.topK ⟨2, ![4096, 1]⟩ 1 (FloatOps.cmpfTotal (F := Ideal) (φ := .f32) .gt) x h).1 (ix2 r z) = f (sortedFrom B 0) := by
    unfold Host.topK Host.sort2 extractStridedSlice
    simp only []
    rw [dif_pos (show 1 < 2 by decide)]
    have key : ∀ j : (⟨2, ![4096, 16384]⟩ : Shape).Idx, j 0 = r → j 1 = (0 : Fin 16384) →
        x (j.along (1 : Fin 2) (sortedFrom (fun k k' : Fin 16384 =>
          FloatOps.cmpfTotal (F := Ideal) (φ := .f32) .gt (x (j.along (1 : Fin 2) k)) (x (j.along (1 : Fin 2) k')) == 1#1) (j 1))) = f (sortedFrom B 0) := by
      intro j h0 h1
      have hg : ∀ g : Fin 16384 → EReal, g = f → ∀ i : Fin 16384, i = 0 →
          g (sortedFrom (fun k k' => FloatOps.cmpfTotal (F := Ideal) (φ := .f32) .gt (g k) (g k') == 1#1) i) = f (sortedFrom B 0) := by
        intro g e i hi
        subst e hi
        rfl
      exact hg (fun k => x (j.along (1 : Fin 2) k)) (funext fun k => congrArg x (halong j k h0)) (j 1) h1
    refine key _ ?_ ?_
    · exact Fin.ext (Nat.zero_add r.val)
    · exact Fin.ext (by show 0 + z.val = 0; have := z.isLt; omega)
  rw [e]
  refine ⟨⟨_, rfl⟩, ?_⟩
  rintro _ ⟨k, rfl⟩
  obtain ⟨i, rfl⟩ := sortedFrom_surjective B k
  rcases Nat.eq_zero_or_pos i.val with h0 | h0
  · rw [show i = 0 from Fin.ext h0]
  · have hn := sortedFrom_noInversion B B (fun a b hab => by
        rw [hB] at hab ⊢; simp only [decide_eq_true_eq, decide_eq_false_iff_not, not_lt] at hab ⊢; exact hab.le)
      (fun _ _ h => h) (fun a b c hab hbc => by
        rw [hB] at hab hbc ⊢; simp only [decide_eq_false_iff_not, not_lt] at hab hbc ⊢; exact hab.trans hbc) 0 i h0
    rw [hB] at hn
    simpa using hn

end Cert.Nearest

end
-- ==== Proof.RefValue.lean ====
/-
The reference's results over the extended reals, element by element.
-/
module

public import proofs.«01_k».proof.Proof.Gen.ReferenceIdeal.Run
public import proofs.«01_k».proof.Proof.Greatest
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-! ## The reference's computation in named steps -/

/-- The squared norms of the queries, one row each. -/
def queryNorms (q : FVec Ideal S4096x512 .f32) : FVec Ideal S4096x16384 .f32 :=
  broadcastInDim S4096x16384 ![0, 1] bcast_S4096x1_S4096x16384_0_1 (broadcastInDim S4096x1 ![0] bcast_S4096_S4096x1_0
    (Host.reduceAdd (mulf q q) (constant S_ .f32 0x00000000#32) reducesTo_S4096x512_S4096_d1 h_S_))
/-- The squared norms of the bank rows, one column each. -/
def bankNorms (b : FVec Ideal S16384x512 .f32) : FVec Ideal S4096x16384 .f32 :=
  broadcastInDim S4096x16384 ![0, 1] bcast_S1x16384_S4096x16384_0_1 (transpose S1x16384 [1, 0] (broadcastInDim S16384x1 ![0] bcast_S16384_S16384x1_0
    (Host.reduceAdd (mulf b b) (constant S_ .f32 0x00000000#32) reducesTo_S16384x512_S16384_d1 h_S_)) transposes_S16384x1_S1x16384_1_0)
/-- The products of the queries with the bank rows. -/
def products (q : FVec Ideal S4096x512 .f32) (b : FVec Ideal S16384x512 .f32) : FVec Ideal S4096x16384 .f32 :=
  Host.dotGeneral dot_S4096x512_S512x16384_S4096x16384_1_0_0_1_n_n none q (transpose S512x16384 [1, 0] b transposes_S16384x512_S512x16384_1_0)
/-- The distances. -/
def distances (n s p : FVec Ideal S4096x16384 .f32) : FVec Ideal S4096x16384 .f32 :=
  Host.sqrt (addf (maximumf (subf (addf n s) (mulf (broadcastInDim S4096x16384 ![] bcast_S_S4096x16384 (constant S_ .f32 0x40000000#32)) p))
    (broadcastInDim S4096x16384 ![] bcast_S_S4096x16384 (constant S_ .f32 0x00000000#32)))
    (broadcastInDim S4096x16384 ![] bcast_S_S4096x16384 (constant S_ .f32 0x2B8CBCCC#32)))
/-- The negated distance of each query to its nearest bank row. -/
def nearest (x : FVec Ideal S4096x16384 .f32) : FVec Ideal S4096x1 .f32 :=
  (Host.topK S4096x1 1 (FloatOps.cmpfTotal (F := Ideal) (φ := .f32) .gt) (Host.negf x) sliceFits_S4096x16384_S4096x1).1
/-- Each query's mean distance to its one nearest bank row. -/
def means (x : FVec Ideal S4096x1 .f32) : FVec Ideal S4096 .f32 :=
  Host.divf (Host.reduceAdd (Host.negf x) (constant S_ .f32 0x00000000#32) reducesTo_S4096x1_S4096_d1 h_S_)
    (broadcastInDim S4096 ![] bcast_S_S4096 (constant S_ .f32 0x3F800000#32))
/-- The largest of them. -/
def largest (x : FVec Ideal S4096 .f32) : FVec Ideal S1 .f32 :=
  Host.reduce FloatOps.maximumf (shapeCast S1x4096 x shapeCasts_S4096_S1x4096) (constant S_ .f32 0xFF800000#32) reducesTo_S1x4096_S1_d1 h_S_
/-- The scores of the queries. -/
def scores (q : FVec Ideal S4096x512 .f32) (b : FVec Ideal S16384x512 .f32) : FVec Ideal S4096 .f32 :=
  means (nearest (distances (queryNorms q) (bankNorms b) (products q b)))

/-! ## Their elements -/

/-- A query's squared norm. -/
theorem queryNorms_at (q : FVec Ideal S4096x512 .f32) (r : Fin 4096) (k : Fin 16384) :
    queryNorms q (ix2 r k) = ∑ d : Fin 512, q (ix2 r d) * q (ix2 r d) := by
  pointwise [queryNorms]

/-- A bank row's squared norm. -/
theorem bankNorms_at (b : FVec Ideal S16384x512 .f32) (r : Fin 4096) (k : Fin 16384) :
    bankNorms b (ix2 r k) = ∑ d : Fin 512, b (ix2 k d) * b (ix2 k d) := by
  pointwise [bankNorms]

/-- The product of a query with a bank row. -/
theorem products_at (q : FVec Ideal S4096x512 .f32) (b : FVec Ideal S16384x512 .f32) (r : Fin 4096) (k : Fin 16384) :
    products q b (ix2 r k) = ∑ d : Fin 512, q (ix2 r d) * b (ix2 k d) := by
  pointwise [products]

/-- A distance, of the squared norms and the product. -/
theorem distances_at (n s p : FVec Ideal S4096x16384 .f32) (i : S4096x16384.Idx) :
    distances n s p i = Ideal.sqrt (max ((n i + s i) - Ideal.ofBits .f32 0x40000000#32 * p i) (Ideal.ofBits .f32 0x00000000#32)
      + Ideal.ofBits .f32 0x2B8CBCCC#32) := rfl

/-- A mean over one distance is that distance. -/
theorem means_at (x : FVec Ideal S4096x1 .f32) (r : Fin 4096) : means x (ix1 r) = - x (ix2 r 0) := by
  pointwise [means]
  rw [Fin.sum_univ_one]
  simp [Ideal.div]

/-- The largest score is the running maximum of the scores. -/
theorem largest_at (x : FVec Ideal S4096 .f32) (z : Fin 1) :
    largest x (ix1 z) = Finset.univ.fold max (Ideal.ofBits .f32 0xFF800000#32) fun r : Fin 4096 => x (ix1 r) := by
  pointwise [largest]

/-- Every run of the reference ends with these, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = scores (m ((c.tc : Thread nD τ).loc main_arg0)) (m ((c.tc : Thread nD τ).loc main_arg1))
      ∧ r.2.mem ((c.tc : Thread nD τ).loc main_v26) = largest (scores (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.ReferenceIdeal.Hand

end
-- ==== Proof.KernelValue.lean ====
/-
The kernel's results over the extended reals, element by element: what the scratch holds, what each query block reads,
and each score.
-/
module

public import proofs.«01_k».proof.Proof.Body
public import proofs.«01_k».proof.Proof.Greatest
public import Idealize.ShloMosaic.Lib.Pointwise
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic

/-! ## The body's arithmetic -/

/-- A stored bank block is the block read. -/
theorem pay1_at (x : Vec Ideal S2048x512 .f32) (r : Fin 2048) (d : Fin 512) : (k0_pay1 x (ix2 r d) : EReal) = x (ix2 r d) := by
  pointwise [k0_pay1]

/-- With it are stored half the squared norms of its rows. -/
theorem pay2_at (x : Vec Ideal S2048x512 .f32) (r : Fin 2048) (z : Fin 1) :
    k0_pay2 x (ix2 r z) = Ideal.ofBits .f32 0x3F000000#32 * ∑ d : Fin 512, x (ix2 r d) * x (ix2 r d) := by
  pointwise [k0_pay2]

/-- The products of a chunk's bank rows with the queries. -/
theorem products_at (a : FVec Ideal S8192x512 .fp8e4m3) (y : FVec Ideal S512x512 .fp8e4m3) (r : Fin 8192) (q : Fin 512) :
    matmul dot_S8192x512_S512x512_S8192x512_1_1_0_0_n_n none a y (constant S8192x512 .f32 0x00000000#32 : FVec Ideal S8192x512 .f32) (ix2 r q)
      = ∑ d : Fin 512, a (ix2 r d) * y (ix2 q d) := by
  pointwise

/-- The largest entry of a column. -/
theorem colmax_at (w : FVec Ideal S8192x512 .f32) (q : Fin 512) :
    multiReduction .maximumf [0] S512 w 0xFF800000#32 reduces_S8192x512_S512 (.inl rfl) rfl (ix1 q)
      = Finset.univ.fold max (Ideal.ofBits .f32 0xFF800000#32) fun r : Fin 8192 => w (ix2 r q) := by
  pointwise

/-- A column of half norms, repeated. -/
theorem norms_at (u : FVec Ideal S8192x1 .f32) (r : Fin 8192) (q : Fin 512) :
    broadcastTo S8192x512 u broadcasts_S8192x1_S8192x512 (ix2 r q) = u (ix2 r 0) := by
  pointwise

/-- The squared norm of a query. -/
theorem rowsum_at (x : FVec Ideal S512x512 .f32) (q : Fin 512) :
    multiReduction .add [1] S512 (mulf x x) 0x00000000#32 reduces_S512x512_S512 (.inl rfl) rfl (ix1 q)
      = ∑ d : Fin 512, x (ix2 q d) * x (ix2 q d) := by
  pointwise

/-- For each query, the largest product with a chunk's row less half the row's squared norm. -/
def chunkBest (x : Vec Ideal S512x512 .f32) (a : Vec Ideal S8192x512 .fp8e4m3) (u : Vec Ideal S8192x1 .f32) (q : Fin 512) : EReal :=
  Finset.univ.fold max (Ideal.ofBits .f32 0xFF800000#32) fun r : Fin 8192 => (∑ d : Fin 512, a (ix2 r d) * x (ix2 q d)) - u (ix2 r 0)

/-- A chunk's products with the queries less half the squared norms of its rows. -/
def chunkEntries (x : FVec Ideal S512x512 .f32) (a : FVec Ideal S8192x512 .fp8e4m3) (u : FVec Ideal S8192x1 .f32) : FVec Ideal S8192x512 .f32 :=
  subf (matmul dot_S8192x512_S512x512_S8192x512_1_1_0_0_n_n none a (truncf .fp8e4m3 x bitsLt_fp8e4m3_f32 : FVec Ideal S512x512 .fp8e4m3)
    (constant S8192x512 .f32 0x00000000#32 : FVec Ideal S8192x512 .f32)) (broadcastTo S8192x512 u broadcasts_S8192x1_S8192x512)

/-- Their largest, for each query. -/
def chunkRow (x : FVec Ideal S512x512 .f32) (a : FVec Ideal S8192x512 .fp8e4m3) (u : FVec Ideal S8192x1 .f32) : FVec Ideal S512 .f32 :=
  multiReduction .maximumf [0] S512 (chunkEntries x a u) 0xFF800000#32 reduces_S8192x512_S512 (.inl rfl) rfl

/-- Each of them, as a sum of products less the row's half squared norm. -/
theorem chunkEntries_at (x : FVec Ideal S512x512 .f32) (a : FVec Ideal S8192x512 .fp8e4m3) (u : FVec Ideal S8192x1 .f32) (r : Fin 8192) (q : Fin 512) :
    chunkEntries x a u (ix2 r q) = (∑ d : Fin 512, a (ix2 r d) * x (ix2 q d)) - u (ix2 r 0) := by
  unfold chunkEntries
  rw [subf_apply, products_at, norms_at]
  rfl

/-- The row of maxima holds each query's largest. -/
theorem chunkRow_at (x : FVec Ideal S512x512 .f32) (a : FVec Ideal S8192x512 .fp8e4m3) (u : FVec Ideal S8192x1 .f32) (q : Fin 512) :
    chunkRow x a u (ix1 q) = chunkBest x a u q := by
  refine (colmax_at _ q).trans ?_
  unfold chunkBest
  simp only [chunkEntries_at]

/-- A score, of the squared norm of the query and the largest product less half a squared norm. -/
def score (Q M : EReal) : EReal :=
  Ideal.sqrt (max (Q - Ideal.ofBits .f32 0x40000000#32 * M) (Ideal.ofBits .f32 0x00000000#32) + Ideal.ofBits .f32 0x2B8CBCCC#32)

/-- The scores of the squared norms `w` and the largest entries `s`. -/
def scores (w s : FVec Ideal S512 .f32) : FVec Ideal S512 .f32 :=
  sqrt (addf (maximumf (subf w (mulf (broadcast S512 (Scalar.ofBits .f32 0x40000000#32 : Ideal .f32)) s))
    (broadcast S512 (Scalar.ofBits .f32 0x00000000#32 : Ideal .f32))) (broadcast S512 (Scalar.ofBits .f32 0x2B8CBCCC#32 : Ideal .f32)))

/-- Each score is of the elements at its index. -/
theorem scores_at (w s : FVec Ideal S512 .f32) (i : S512.Idx) : scores w s i = score (w i) (s i) := rfl

/-- The body's scores, in these steps. -/
theorem pay4_eq (x : FVec Ideal S512x512 .f32) (a : FVec Ideal S8192x512 .fp8e4m3) (u : FVec Ideal S8192x1 .f32)
    (b : FVec Ideal S8192x512 .fp8e4m3) (v : FVec Ideal S8192x1 .f32) :
    k0_pay4 (F := Ideal) x a u b v
      = scores (multiReduction .add [1] S512 (mulf x x) 0x00000000#32 reduces_S512x512_S512 (.inl rfl) rfl) (maximumf (chunkRow x a u) (chunkRow x b v)) := rfl

/-- The body's scores. -/
theorem pay4_at (x : FVec Ideal S512x512 .f32) (a : FVec Ideal S8192x512 .fp8e4m3) (u : FVec Ideal S8192x1 .f32)
    (b : FVec Ideal S8192x512 .fp8e4m3) (v : FVec Ideal S8192x1 .f32) (q : Fin 512) :
    k0_pay4 (F := Ideal) x a u b v (ix1 q)
      = score (∑ d : Fin 512, x (ix2 q d) * x (ix2 q d)) (max (chunkBest x a u q) (chunkBest x b v q)) := by
  rw [pay4_eq, scores_at, rowsum_at, maximumf_apply, chunkRow_at, chunkRow_at]
  rfl

/-- The largest score of a block. -/
theorem pay5_at (x : Vec Ideal S512x512 .f32) (a : Vec Ideal S8192x512 .fp8e4m3) (u : Vec Ideal S8192x1 .f32)
    (b : Vec Ideal S8192x512 .fp8e4m3) (v : Vec Ideal S8192x1 .f32) :
    (k0_pay5 x a u b v : EReal) = Finset.univ.fold max (Ideal.ofBits .f32 0xFF800000#32) fun q : Fin 512 => k0_pay4 x a u b v (ix1 q) := by
  pointwise [k0_pay5]

/-- The image score raised by a block. -/
theorem pay3_at (s : EReal) (y : Vec Ideal S1x128 .f32) (z : Fin 1) (l : Fin 128) :
    (k0_pay3 s y (ix2 z l) : EReal) = max (y (ix2 z l)) s := by
  pointwise [k0_pay3]

/-! ## The blocks read -/

variable (m : (ℓ : Loc nD τ sig) → Buf (Elt Ideal) ℓ)

/-- The queries. -/
def queries (c : Dev nD) (r : Fin 4096) (d : Fin 512) : EReal := (m ((c : Thread nD τ).loc main_arg0) : Vec Ideal S4096x512 .f32) (ix2 r d)
/-- The memory bank. -/
def bank (c : Dev nD) (k : Fin 16384) (d : Fin 512) : EReal := (m ((c : Thread nD τ).loc main_arg1) : Vec Ideal S16384x512 .f32) (ix2 k d)

/-- The query block that each point reads. -/
theorem index_0 : ∀ t : Fin cfg0.N, win0_0.index t = ![t.val - 8, 0] :=
  (by decide +kernel : ∀ t : Fin grid0.N, _)
/-- The bank block that each point reads. -/
theorem index_1 : ∀ t : Fin cfg0.N, win0_1.index t = ![t.val % 8 * (1 - t.val / 8), 0] :=
  (by decide +kernel : ∀ t : Fin grid0.N, _)

/-- The query block read at a point of the second phase. -/
theorem queryBlock_at (c : Dev nD) (t : Fin cfg0.N) (h : 8 ≤ t.val) (q d : Fin 512) :
    queryBlock m c t (ix2 q d) = queries m c ⟨512 * (t.val - 8) + q.val, by have := t.isLt; have : cfg0.N = 16 := N_0; have := q.isLt; omega⟩ d := by
  unfold queryBlock queries
  blk_simp [iblk]
  show m ((c : Thread nD τ).loc main_arg0) _ = _
  congr 1
  blk_ext [index_0]

/-- The bank block read at a point of the first phase. -/
theorem bankBlock_at (c : Dev nD) (t : Fin cfg0.N) (h : t.val < 8) (r : Fin 2048) (d : Fin 512) :
    bankBlock m c t (ix2 r d) = bank m c ⟨2048 * t.val + r.val, by have := r.isLt; omega⟩ d := by
  unfold bankBlock bank
  blk_simp [iblk]
  show m ((c : Thread nD τ).loc main_arg1) _ = _
  congr 1
  have h0 : t.val / 8 = 0 := by omega
  have h1 : t.val % 8 = t.val := by omega
  blk_ext [index_1, h0, h1]

/-! ## The scores -/

/-- The scratch holds the bank. -/
theorem bankK_at (c : Dev nD) (k : Fin 16384) (d : Fin 512) : (bankK m c (ix2 k d) : EReal) = bank m c k d := by
  show (k0_pay1 (bankBlock m c (rowPoint k)) (ix2 (⟨k.val % 2048, Nat.mod_lt _ (by decide)⟩ : Fin 2048) d) : EReal) = _
  have hk := k.isLt
  rw [pay1_at, bankBlock_at m c (rowPoint k) (by show k.val / 2048 < 8; omega)]
  congr 1
  exact Fin.ext (Nat.div_add_mod k.val 2048)

/-- And half the squared norms of its rows. -/
theorem bankN_at (c : Dev nD) (k : Fin 16384) (z : Fin 1) :
    bankN m c (ix2 k z) = Ideal.ofBits .f32 0x3F000000#32 * ∑ d : Fin 512, bank m c k d * bank m c k d := by
  show k0_pay2 (bankBlock m c (rowPoint k)) (ix2 (⟨k.val % 2048, Nat.mod_lt _ (by decide)⟩ : Fin 2048) z) = _
  have hk := k.isLt
  have e : ∀ h, (⟨2048 * (rowPoint k).val + k.val % 2048, h⟩ : Fin 16384) = k := fun _ => Fin.ext (Nat.div_add_mod k.val 2048)
  simp only [pay2_at, bankBlock_at m c (rowPoint k) (show k.val / 2048 < 8 by omega), e]

/-- The product of query `r` with bank row `k`, less half the row's squared norm. -/
def entry (c : Dev nD) (r : Fin 4096) (k : Fin 16384) : EReal :=
  (∑ d : Fin 512, bank m c k d * queries m c r d) - Ideal.ofBits .f32 0x3F000000#32 * ∑ d : Fin 512, bank m c k d * bank m c k d

/-- The query that a block's row `q` at a point of the second phase is. -/
def queryOf (b : Fin 8) (q : Fin 512) : Fin 4096 := ⟨512 * b.val + q.val, by have := b.isLt; have := q.isLt; omega⟩

/-- The number of a point of the second phase. -/
theorem scorePoint_val (b : Fin 8) : (scorePoint b.val).val = 8 + b.val := by
  have := b.isLt
  show (8 + b.val) % 16 = _; omega

/-- A row of a point's query block is the query of that block and row. -/
theorem query_at (c : Dev nD) (b : Fin 8) (q d : Fin 512) : queryBlock m c (scorePoint b.val) (ix2 q d) = queries m c (queryOf b q) d := by
  rw [queryBlock_at m c _ (by rw [scorePoint_val]; omega)]
  congr 1
  exact Fin.ext (by show 512 * ((scorePoint b.val).val - 8) + q.val = 512 * b.val + q.val; rw [scorePoint_val]; omega)

/-- The first chunk's rows are the bank's first 8192. -/
theorem lowK_at (c : Dev nD) (r : Fin 8192) (d : Fin 512) : (lowK (bankK m c) (ix2 r d) : EReal) = bank m c ⟨r.val, by have := r.isLt; omega⟩ d := by
  rw [← bankK_at]
  unfold lowK
  congr 1
  idx_ext
/-- The second chunk's rows are the bank's last 8192. -/
theorem highK_at (c : Dev nD) (r : Fin 8192) (d : Fin 512) : (highK (bankK m c) (ix2 r d) : EReal) = bank m c ⟨8192 + r.val, by have := r.isLt; omega⟩ d := by
  rw [← bankK_at]
  unfold highK
  congr 1
  idx_ext
/-- With the first chunk go half its rows' squared norms. -/
theorem lowN_at (c : Dev nD) (r : Fin 8192) (z : Fin 1) : lowN (bankN m c) (ix2 r z)
    = Ideal.ofBits .f32 0x3F000000#32 * ∑ d : Fin 512, bank m c ⟨r.val, by have := r.isLt; omega⟩ d * bank m c ⟨r.val, by have := r.isLt; omega⟩ d := by
  rw [← bankN_at m c _ z]
  unfold lowN
  congr 1
  idx_ext
/-- With the second chunk go half its rows' squared norms. -/
theorem highN_at (c : Dev nD) (r : Fin 8192) (z : Fin 1) : highN (bankN m c) (ix2 r z)
    = Ideal.ofBits .f32 0x3F000000#32 * ∑ d : Fin 512, bank m c ⟨8192 + r.val, by have := r.isLt; omega⟩ d * bank m c ⟨8192 + r.val, by have := r.isLt; omega⟩ d := by
  rw [← bankN_at m c _ z]
  unfold highN
  congr 1
  idx_ext

/-- A score is that of the largest entry over the whole bank. -/
theorem scoreAt_at (c : Dev nD) (b : Fin 8) (q : Fin 512) :
    ∃ M, IsGreatest (Set.range (entry m c (queryOf b q))) M
      ∧ scoreAt m c (scorePoint b.val) (ix1 q) = score (∑ d : Fin 512, queries m c (queryOf b q) d * queries m c (queryOf b q) d) M := by
  refine ⟨max (chunkBest (queryBlock m c (scorePoint b.val)) (lowK (bankK m c)) (lowN (bankN m c)) q)
    (chunkBest (queryBlock m c (scorePoint b.val)) (highK (bankK m c)) (highN (bankN m c)) q), ?_, ?_⟩
  · have hlow : IsGreatest (Set.range fun r : Fin 8192 => entry m c (queryOf b q) ⟨r.val, by have := r.isLt; omega⟩)
        (chunkBest (queryBlock m c (scorePoint b.val)) (lowK (bankK m c)) (lowN (bankN m c)) q) := by
      unfold chunkBest
      simp only [lowK_at, lowN_at, query_at]
      exact Nearest.isGreatest_fold _
    have hhigh : IsGreatest (Set.range fun r : Fin 8192 => entry m c (queryOf b q) ⟨8192 + r.val, by have := r.isLt; omega⟩)
        (chunkBest (queryBlock m c (scorePoint b.val)) (highK (bankK m c)) (highN (bankN m c)) q) := by
      unfold chunkBest
      simp only [highK_at, highN_at, query_at]
      exact Nearest.isGreatest_fold _
    have hu := hlow.union hhigh
    convert hu using 1
    ext p
    constructor
    · rintro ⟨k, rfl⟩
      by_cases hk : k.val < 8192
      · exact Or.inl ⟨⟨k.val, hk⟩, rfl⟩
      · refine Or.inr ⟨⟨k.val - 8192, by have := k.isLt; omega⟩, congrArg (entry m c (queryOf b q)) (Fin.ext ?_)⟩
        show 8192 + (k.val - 8192) = k.val; omega
    · rintro (⟨r, rfl⟩ | ⟨r, rfl⟩) <;> exact ⟨_, rfl⟩
  · unfold scoreAt blockScore
    rw [pay4_at]
    simp only [query_at]

end Cert.KernelIdeal.Hand

end
-- ==== Proof.Equation.lean ====
/-
The equation of the two programs: over a bank of real numbers, every score of the kernel is the reference's, and so is
the image score.
-/
module

public import proofs.«01_k».proof.Proof.KernelValue
public import proofs.«01_k».proof.Proof.Run
public import proofs.«01_k».proof.Proof.RefValue
public import proofs.«01_k».proof.Pre_finite_bank

@[expose] public section

set_option maxRecDepth 16384

noncomputable section

namespace Cert.Nearest

open Idealize.ShloMosaic Idealize.ShloMosaic.TcCoe

/-! ## The precondition -/

/-- The shape fact that the precondition states. -/
instance preFacts : Cert.Pre_finite_bank.Facts where
  bcast_S_S16384x512 := by decide

/-- Under the precondition every bank entry is a real number. -/
theorem real_of_pre (q : FVec Ideal Cert.Pre_finite_bank.S4096x512 .f32) (b : FVec Ideal Cert.Pre_finite_bank.S16384x512 .f32)
    (h : Cert.Pre_finite_bank.fn (F := Ideal) q b = fun _ => 1#1) (k : Fin 16384) (d : Fin 512) : ∃ x : ℝ, b (ix2 k d) = (x : EReal) := by
  have e := congrFun h (ix2 k d)
  revert e
  pointwise [Cert.Pre_finite_bank.fn]
  intro e
  have top : Ideal.ofBits .f32 0x7F800000#32 = (⊤ : EReal) := by simp [Ideal.ofBits, Ideal.ieee]
  rw [top] at e
  generalize b (ix2 k d) = y at e ⊢
  induction y using EReal.rec with
  | bot => exact absurd e (by simp [FloatOps.absf])
  | top => exact absurd e (by simp [FloatOps.absf])
  | coe x => exact ⟨x, rfl⟩

/-! ## One distance -/

/-- Twice the product less half the squared norm, taken from the query's squared norm, is the squared distance, if the
bank row's squared norm `s` is real. -/
theorem distance_eq (Q c : EReal) (s : ℝ) :
    Q - Ideal.ofBits .f32 0x40000000#32 * (c - Ideal.ofBits .f32 0x3F000000#32 * (s : EReal)) = (Q + (s : EReal)) - Ideal.ofBits .f32 0x40000000#32 * c := by
  rw [two_eq, half_eq, ← EReal.coe_mul]
  induction c with
  | bot =>
    rw [EReal.bot_sub, EReal.coe_mul_bot_of_pos (by norm_num)]
    induction Q <;> simp
  | top =>
    rw [EReal.top_sub_coe, EReal.coe_mul_top_of_pos (by norm_num), EReal.sub_top, EReal.sub_top]
  | coe x =>
    rw [← EReal.coe_sub, ← EReal.coe_mul, ← EReal.coe_mul]
    induction Q with
    | bot => rw [EReal.bot_sub, EReal.bot_add, EReal.bot_sub]
    | top => rw [EReal.top_sub_coe, EReal.top_add_coe, EReal.top_sub_coe]
    | coe y =>
      norm_cast
      ring

/-- The squared norm of a row of real numbers is a real number. -/
theorem real_norm (x : Fin 512 → EReal) (h : ∀ d, ∃ y : ℝ, x d = (y : EReal)) : ∃ s : ℝ, ∑ d : Fin 512, x d * x d = (s : EReal) := by
  choose y hy using h
  refine ⟨∑ d : Fin 512, y d * y d, ?_⟩
  simp only [hy, ← EReal.coe_mul]
  exact (map_sum (⟨⟨Real.toEReal, EReal.coe_zero⟩, EReal.coe_add⟩ : ℝ →+ EReal) (fun d => y d * y d) Finset.univ).symm

/-- A score falls as the largest entry grows. -/
theorem score_anti (Q : EReal) : Antitone (KernelIdeal.Hand.score Q) := by
  intro x y h
  refine sqrt_mono (add_le_add_left (max_le_max_right _ (EReal.sub_le_sub le_rfl ?_)) _)
  rw [two_eq]
  exact mul_le_mul_of_nonneg_left h (by norm_num)

end Cert.Nearest

namespace Cert.KernelIdeal.Hand

open Idealize.ShloMosaic Idealize.ShloMosaic.TcCoe
open Cert.KernelIdeal.Gen

variable (m : (ℓ : Loc nD τ sig) → Buf (Elt Ideal) ℓ)

/-! ## The scores of the queries -/

/-- Every query is the query of a row of a block. -/
theorem queryOf_div (r : Fin 4096) :
    queryOf ⟨r.val / 512, by have := r.isLt; omega⟩ ⟨r.val % 512, Nat.mod_lt _ (by decide)⟩ = r :=
  Fin.ext (Nat.div_add_mod r.val 512)

/-- The score of a query is the score of its block's row. -/
theorem patches_queryOf (c : Dev nD) (b : Fin 8) (q : Fin 512) :
    patches m c (ix1 (queryOf b q)) = scoreAt m c (scorePoint b.val) (ix1 q) := by
  have hb := b.isLt
  have hq := q.isLt
  have h1 : (512 * b.val + q.val) / 512 = b.val := by omega
  have h2 : (512 * b.val + q.val) % 512 = q.val := by omega
  show scoreAt m c (scorePoint ((512 * b.val + q.val) / 512)) (ix1 (⟨(512 * b.val + q.val) % 512, _⟩ : Fin 512)) = _
  simp only [h1, h2]

/-- The scores of the queries are the reference's, over a bank of real numbers. -/
theorem patches_eq (c : Dev nD) (h : ∀ k d, ∃ x : ℝ, bank m c k d = (x : EReal)) :
    patches m c = Cert.ReferenceIdeal.Hand.scores (m ((c : Thread nD τ).loc main_arg0)) (m ((c : Thread nD τ).loc main_arg1)) := by
  funext j
  obtain ⟨r, rfl⟩ : ∃ r : Fin 4096, j = ix1 r := ⟨j 0, by idx_ext⟩
  obtain ⟨b, q, rfl⟩ : ∃ b q, r = queryOf b q := ⟨_, _, (queryOf_div r).symm⟩
  rw [patches_queryOf]
  obtain ⟨M, hM, e⟩ := scoreAt_at m c b q
  rw [e]
  unfold Cert.ReferenceIdeal.Hand.scores
  rw [Cert.ReferenceIdeal.Hand.means_at]
  have hr := Nearest.isGreatest_topK
    (Host.negf (Cert.ReferenceIdeal.Hand.distances (Cert.ReferenceIdeal.Hand.queryNorms (m ((c : Thread nD τ).loc main_arg0)))
      (Cert.ReferenceIdeal.Hand.bankNorms (m ((c : Thread nD τ).loc main_arg1)))
      (Cert.ReferenceIdeal.Hand.products (m ((c : Thread nD τ).loc main_arg0)) (m ((c : Thread nD τ).loc main_arg1)))))
    Cert.ReferenceIdeal.Facts₀.sliceFits_S4096x16384_S4096x1 (queryOf b q) 0
  have hk : IsGreatest _ _ := Monotone.map_isGreatest
    (f := fun M => -(score (∑ d : Fin 512, queries m c (queryOf b q) d * queries m c (queryOf b q) d) M))
    (fun x y hxy => EReal.neg_le_neg_iff.mpr (Nearest.score_anti _ hxy)) hM
  rw [← Set.range_comp] at hk
  have hf : ((fun M => -(score (∑ d : Fin 512, queries m c (queryOf b q) d * queries m c (queryOf b q) d) M)) ∘ entry m c (queryOf b q))
      = fun k : Fin 16384 => (Host.negf (Cert.ReferenceIdeal.Hand.distances (Cert.ReferenceIdeal.Hand.queryNorms (m ((c : Thread nD τ).loc main_arg0)))
      (Cert.ReferenceIdeal.Hand.bankNorms (m ((c : Thread nD τ).loc main_arg1)))
      (Cert.ReferenceIdeal.Hand.products (m ((c : Thread nD τ).loc main_arg0)) (m ((c : Thread nD τ).loc main_arg1))))) (ix2 (queryOf b q) k) := by
    funext k
    show _ = -(Cert.ReferenceIdeal.Hand.distances _ _ _ (ix2 (queryOf b q) k) : EReal)
    rw [Cert.ReferenceIdeal.Hand.distances_at, Cert.ReferenceIdeal.Hand.queryNorms_at, Cert.ReferenceIdeal.Hand.bankNorms_at,
      Cert.ReferenceIdeal.Hand.products_at]
    obtain ⟨s, hs⟩ := Nearest.real_norm (fun d => bank m c k d) (h k)
    show -(score _ ((∑ d : Fin 512, bank m c k d * queries m c (queryOf b q) d)
      - Ideal.ofBits .f32 0x3F000000#32 * ∑ d : Fin 512, bank m c k d * bank m c k d)) = _
    unfold score
    rw [hs, Nearest.distance_eq, ← hs]
    simp only [mul_comm (bank m c k _) (queries m c (queryOf b q) _)]
    rfl
  rw [hf] at hk
  have e2 := hk.unique hr
  exact neg_eq_iff_eq_neg.mp e2

/-! ## The image score -/

/-- The largest score of a block. -/
theorem blockMax_at (c : Dev nD) (n : ℕ) :
    IsGreatest (Set.range fun q : Fin 512 => (scoreAt m c (scorePoint n) (ix1 q) : EReal))
      (k0_pay5 (queryBlock m c (scorePoint n)) (lowK (bankK m c)) (lowN (bankN m c)) (highK (bankK m c)) (highN (bankN m c)) : EReal) := by
  rw [pay5_at]
  exact Nearest.isGreatest_fold _

/-- The first image score is the largest of the first block. -/
theorem pay6_at (x : Vec Ideal S512x512 .f32) (a : Vec Ideal S8192x512 .fp8e4m3) (u : Vec Ideal S8192x1 .f32)
    (b : Vec Ideal S8192x512 .fp8e4m3) (v : Vec Ideal S8192x1 .f32) (z : Fin 1) (l : Fin 128) :
    (k0_pay6 x a u b v (ix2 z l) : EReal) = k0_pay5 x a u b v := by
  unfold k0_pay6
  generalize (k0_pay5 (F := Ideal) x a u b v) = y
  rfl

/-- The image score after `n + 1` blocks is the largest score of these blocks. -/
theorem imageAt_at (c : Dev nD) (z : Fin 1) (l : Fin 128) (n : ℕ) :
    IsGreatest {p : EReal | ∃ b, b ≤ n ∧ ∃ q : Fin 512, p = scoreAt m c (scorePoint b) (ix1 q)} (imageAt m c n (ix2 z l)) := by
  induction n with
  | zero =>
    have e : (imageAt m c 0 (ix2 z l) : EReal) = k0_pay5 (queryBlock m c (scorePoint 0)) (lowK (bankK m c)) (lowN (bankN m c)) (highK (bankK m c)) (highN (bankN m c)) :=
      by
        unfold imageAt imageStart
        exact pay6_at _ _ _ _ _ z l
    rw [e]
    convert blockMax_at m c 0 using 1
    ext p
    constructor
    · rintro ⟨b, hb, q, rfl⟩
      obtain rfl : b = 0 := by omega
      exact ⟨q, rfl⟩
    · rintro ⟨q, rfl⟩
      exact ⟨0, le_rfl, q, rfl⟩
  | succ n ih =>
    have e : (imageAt m c (n + 1) (ix2 z l) : EReal) = max (imageAt m c n (ix2 z l))
        (k0_pay5 (queryBlock m c (scorePoint (n + 1))) (lowK (bankK m c)) (lowN (bankN m c)) (highK (bankK m c)) (highN (bankN m c))) :=
      by
        rw [imageAt]
        unfold imageRaise
        exact pay3_at _ _ z l
    rw [e]
    convert ih.union (blockMax_at m c (n + 1)) using 1
    ext p
    constructor
    · rintro ⟨b, hb, q, rfl⟩
      rcases Nat.lt_or_ge n b with hn | hn
      · obtain rfl : b = n + 1 := by omega
        exact Or.inr ⟨q, rfl⟩
      · exact Or.inl ⟨b, hn, q, rfl⟩
    · rintro (⟨b, hb, q, rfl⟩ | ⟨q, rfl⟩)
      · exact ⟨b, by omega, q, rfl⟩
      · exact ⟨n + 1, le_rfl, q, rfl⟩

/-- The result taken from the image score is its first lane. -/
theorem firstLane_at (x : FVec Ideal S1x128 .f32) (z : Fin 1) :
    shapeCast S1 (extractStridedSlice S1x1 ![0, 0] x slices_S1x128_S1x1_0_0) shapeCasts_S1x1_S1 (ix1 z) = x (ix2 0 0) := by
  pointwise

/-- The image score is the reference's largest of the scores. -/
theorem image_eq (c : Dev nD) :
    shapeCast S1 (extractStridedSlice S1x1 ![0, 0] (imageAt m c 7) slices_S1x128_S1x1_0_0) shapeCasts_S1x1_S1
      = Cert.ReferenceIdeal.Hand.largest (patches m c) := by
  funext j
  obtain ⟨z, rfl⟩ : ∃ z : Fin 1, j = ix1 z := ⟨j 0, by idx_ext⟩
  refine (firstLane_at _ z).trans ?_
  rw [Cert.ReferenceIdeal.Hand.largest_at]
  refine (imageAt_at m c 0 0 7).unique ?_
  convert Nearest.isGreatest_fold fun r : Fin 4096 => (patches m c (ix1 r) : EReal) using 1
  ext p
  constructor
  · rintro ⟨b, hb, q, rfl⟩
    exact ⟨queryOf ⟨b, by omega⟩ q, patches_queryOf m c ⟨b, by omega⟩ q⟩
  · rintro ⟨r, rfl⟩
    refine ⟨r.val / 512, by have := r.isLt; omega, ⟨r.val % 512, Nat.mod_lt _ (by decide)⟩, ?_⟩
    rfl

end Cert.KernelIdeal.Hand

end
-- ==== Proof.lean ====
/-
The proof of `Cert.Claim`: the kernel's program, its ideal program and the reference's terminate without fault, leave
their arguments unchanged and every semaphore counter at zero, and over the extended reals the kernel and the reference
end with the same scores and the same image score, if no entry of the memory bank is an infinity.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelFrame
public import proofs.«01_k».proof.Proof.RefValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The ideal program of the kernel ends, its arguments unchanged and every semaphore counter at zero. -/
theorem kernelIdeal_frame : Cert.quiescent_KernelIdeal := fun m ρ _ =>
  (θ_run (Cert.KernelIdeal.defs (F := Ideal)) _ _).mono (fun _ h => ⟨fun c => ⟨(h.1 c).2.2.1, (h.1 c).2.2.2⟩, h.2⟩)
    (Cert.KernelIdeal.Hand.run (F := Ideal) m ρ)

/-- So does the reference. -/
theorem reference_frame : Cert.quiescent_ReferenceIdeal := fun m ρ _ =>
  (θ_run (Cert.ReferenceIdeal.defs (F := Ideal)) _ _).mono
    (fun r h => ⟨fun c => ⟨(h c).2.2.1, (h c).2.2.2⟩, sem_eq_zero_of_no_sems (by decide) r.2⟩) (Cert.ReferenceIdeal.Hand.run m ρ)

/-- Kernel and reference end with the same scores and the same image score. -/
theorem values_eq : Cert.algebraic_KernelIdeal_ReferenceIdeal_pre_finite_bank := by
  intro m ρ m' ρ' hpre hagree
  have hreal : ∀ c k d, ∃ x : ℝ, Cert.KernelIdeal.Hand.bank m c k d = (x : EReal) := fun c k d =>
    Cert.Nearest.real_of_pre _ _ (hpre c) k d
  refine ⟨fun c => Cert.KernelIdeal.Hand.patches m c, fun c => Cert.ReferenceIdeal.Hand.largest (Cert.KernelIdeal.Hand.patches m c), ?_, ?_⟩
  · refine (θ_run (Cert.KernelIdeal.defs (F := Ideal)) _ _).mono (fun _ h c => ?_) (Cert.KernelIdeal.Hand.run (F := Ideal) m ρ)
    obtain ⟨h0, h1, h2, h3⟩ := h.1 c
    exact ⟨h0, h1.trans (Cert.KernelIdeal.Hand.image_eq m c), h2, h3⟩
  · refine (θ_run (Cert.ReferenceIdeal.defs (F := Ideal)) _ _).mono (fun _ h c => ?_) (Cert.ReferenceIdeal.Hand.run m' ρ')
    obtain ⟨h0, h1, h2, h3⟩ := h c
    have e := Cert.KernelIdeal.Hand.patches_eq m c (hreal c)
    rw [(hagree c).1, (hagree c).2] at h0 h1
    exact ⟨h0.trans e.symm, h1.trans (congrArg Cert.ReferenceIdeal.Hand.largest e.symm), h2, h3⟩

/-- Every claim of the certificate holds. -/
theorem claim : Cert.Claim :=
  ⟨Cert.Kernel.Gen.facts, Cert.KernelIdeal.Gen.facts, Cert.ReferenceIdeal.Gen.facts, Cert.Nearest.preFacts,
    Cert.Kernel.Hand.kernel_frame, kernelIdeal_frame, fun m ρ _ => kernelIdeal_frame m ρ trivial,
    reference_frame, fun m ρ _ => reference_frame m ρ trivial, trivial, values_eq⟩

end Cert.Proof

end
